-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_RefDxIdeal (m : (ℓ : Loc Cert.RefDxIdeal.nD Cert.RefDxIdeal.τ Cert.RefDxIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1)
      ∧ r.2.mem ((c.tc : Thread Cert.RefDxIdeal.nD Cert.RefDxIdeal.τ).loc Cert.RefDxIdeal.main_arg2) = m ((c.tc : Thread Cert.RefDxIdeal.nD Cert.RefDxIdeal.τ).loc Cert.RefDxIdeal.main_arg2)
      ∧ r.2.mem ((c.tc : Thread Cert.RefDxIdeal.nD Cert.RefDxIdeal.τ).loc Cert.RefDxIdeal.main_arg3) = m ((c.tc : Thread Cert.RefDxIdeal.nD Cert.RefDxIdeal.τ).loc Cert.RefDxIdeal.main_arg3)
      ∧ r.2.mem ((c.tc : Thread Cert.RefDxIdeal.nD Cert.RefDxIdeal.τ).loc Cert.RefDxIdeal.main_arg4) = m ((c.tc : Thread Cert.RefDxIdeal.nD Cert.RefDxIdeal.τ).loc Cert.RefDxIdeal.main_arg4)
      ∧ r.2.mem ((c.tc : Thread Cert.RefDxIdeal.nD Cert.RefDxIdeal.τ).loc Cert.RefDxIdeal.main_arg5) = m ((c.tc : Thread Cert.RefDxIdeal.nD Cert.RefDxIdeal.τ).loc Cert.RefDxIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1)
      ∧ r.2.mem ((c.tc : Thread Cert.RefDwIdeal.nD Cert.RefDwIdeal.τ).loc Cert.RefDwIdeal.main_arg2) = m ((c.tc : Thread Cert.RefDwIdeal.nD Cert.RefDwIdeal.τ).loc Cert.RefDwIdeal.main_arg2)
      ∧ r.2.mem ((c.tc : Thread Cert.RefDwIdeal.nD Cert.RefDwIdeal.τ).loc Cert.RefDwIdeal.main_arg3) = m ((c.tc : Thread Cert.RefDwIdeal.nD Cert.RefDwIdeal.τ).loc Cert.RefDwIdeal.main_arg3)
      ∧ r.2.mem ((c.tc : Thread Cert.RefDwIdeal.nD Cert.RefDwIdeal.τ).loc Cert.RefDwIdeal.main_arg4) = m ((c.tc : Thread Cert.RefDwIdeal.nD Cert.RefDwIdeal.τ).loc Cert.RefDwIdeal.main_arg4)
      ∧ r.2.mem ((c.tc : Thread Cert.RefDwIdeal.nD Cert.RefDwIdeal.τ).loc Cert.RefDwIdeal.main_arg5) = m ((c.tc : Thread Cert.RefDwIdeal.nD Cert.RefDwIdeal.τ).loc Cert.RefDwIdeal.main_arg5))
      ∧ r.2.sem = fun _ => 0)

def preserves_Dx_DxIdeal : Prop :=
  True

def algebraic_DxIdeal_RefDxIdeal [hDxIdeal : Cert.DxIdeal.Facts] [hRefDxIdeal : Cert.RefDxIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_DxIdeal m →
    (∀ c : Dev Cert.DxIdeal.nD,
      m' ((c.tc : Thread Cert.RefDxIdeal.nD Cert.RefDxIdeal.τ).loc Cert.RefDxIdeal.main_arg0) = m ((c.tc : Thread Cert.DxIdeal.nD Cert.DxIdeal.τ).loc Cert.DxIdeal.main_arg0)
      ∧ m' ((c.tc : Thread Cert.RefDxIdeal.nD Cert.RefDxIdeal.τ).loc Cert.RefDxIdeal.main_arg1) = m ((c.tc : Thread Cert.DxIdeal.nD Cert.DxIdeal.τ).loc Cert.DxIdeal.main_arg1)
      ∧ m' ((c.tc : Thread Cert.RefDxIdeal.nD Cert.RefDxIdeal.τ).loc Cert.RefDxIdeal.main_arg2) = m ((c.tc : Thread Cert.DxIdeal.nD Cert.DxIdeal.τ).loc Cert.DxIdeal.main_arg2)
      ∧ m' ((c.tc : Thread Cert.RefDxIdeal.nD Cert.RefDxIdeal.τ).loc Cert.RefDxIdeal.main_arg3) = m ((c.tc : Thread Cert.DxIdeal.nD Cert.DxIdeal.τ).loc Cert.DxIdeal.main_arg3)
      ∧ m' ((c.tc : Thread Cert.RefDxIdeal.nD Cert.RefDxIdeal.τ).loc Cert.RefDxIdeal.main_arg4) = m ((c.tc : Thread Cert.DxIdeal.nD Cert.DxIdeal.τ).loc Cert.DxIdeal.main_arg4)
      ∧ m' ((c.tc : Thread Cert.RefDxIdeal.nD Cert.RefDxIdeal.τ).loc Cert.RefDxIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v5)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v5) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v27) = v0 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1)
          ∧ r.2.mem ((c.tc : Thread Cert.RefDxIdeal.nD Cert.RefDxIdeal.τ).loc Cert.RefDxIdeal.main_arg2) = m' ((c.tc : Thread Cert.RefDxIdeal.nD Cert.RefDxIdeal.τ).loc Cert.RefDxIdeal.main_arg2)
          ∧ r.2.mem ((c.tc : Thread Cert.RefDxIdeal.nD Cert.RefDxIdeal.τ).loc Cert.RefDxIdeal.main_arg3) = m' ((c.tc : Thread Cert.RefDxIdeal.nD Cert.RefDxIdeal.τ).loc Cert.RefDxIdeal.main_arg3)
          ∧ r.2.mem ((c.tc : Thread Cert.RefDxIdeal.nD Cert.RefDxIdeal.τ).loc Cert.RefDxIdeal.main_arg4) = m' ((c.tc : Thread Cert.RefDxIdeal.nD Cert.RefDxIdeal.τ).loc Cert.RefDxIdeal.main_arg4)
          ∧ r.2.mem ((c.tc : Thread Cert.RefDxIdeal.nD Cert.RefDxIdeal.τ).loc Cert.RefDxIdeal.main_arg5) = m' ((c.tc : Thread Cert.RefDxIdeal.nD Cert.RefDxIdeal.τ).loc Cert.RefDxIdeal.main_arg5))

def preserves_Dw_DwIdeal : Prop :=
  True

def algebraic_DwIdeal_RefDwIdeal [hDwIdeal : Cert.DwIdeal.Facts] [hRefDwIdeal : Cert.RefDwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_DwIdeal m →
    (∀ c : Dev Cert.DwIdeal.nD,
      m' ((c.tc : Thread Cert.RefDwIdeal.nD Cert.RefDwIdeal.τ).loc Cert.RefDwIdeal.main_arg0) = m ((c.tc : Thread Cert.DwIdeal.nD Cert.DwIdeal.τ).loc Cert.DwIdeal.main_arg0)
      ∧ m' ((c.tc : Thread Cert.RefDwIdeal.nD Cert.RefDwIdeal.τ).loc Cert.RefDwIdeal.main_arg1) = m ((c.tc : Thread Cert.DwIdeal.nD Cert.DwIdeal.τ).loc Cert.DwIdeal.main_arg1)
      ∧ m' ((c.tc : Thread Cert.RefDwIdeal.nD Cert.RefDwIdeal.τ).loc Cert.RefDwIdeal.main_arg2) = m ((c.tc : Thread Cert.DwIdeal.nD Cert.DwIdeal.τ).loc Cert.DwIdeal.main_arg2)
      ∧ m' ((c.tc : Thread Cert.RefDwIdeal.nD Cert.RefDwIdeal.τ).loc Cert.RefDwIdeal.main_arg3) = m ((c.tc : Thread Cert.DwIdeal.nD Cert.DwIdeal.τ).loc Cert.DwIdeal.main_arg3)
      ∧ m' ((c.tc : Thread Cert.RefDwIdeal.nD Cert.RefDwIdeal.τ).loc Cert.RefDwIdeal.main_arg4) = m ((c.tc : Thread Cert.DwIdeal.nD Cert.DwIdeal.τ).loc Cert.DwIdeal.main_arg4)
      ∧ m' ((c.tc : Thread Cert.RefDwIdeal.nD Cert.RefDwIdeal.τ).loc Cert.RefDwIdeal.main_arg5) = m ((c.tc : Thread Cert.DwIdeal.nD Cert.DwIdeal.τ).loc Cert.DwIdeal.main_arg5)) →
    ∃ (v0 : (c : Dev Cert.DwIdeal.nD) → Buf (Elt Ideal) ((c.tc : Thread Cert.DwIdeal.nD Cert.DwIdeal.τ).loc Cert.DwIdeal.main_v5_0)) (v1 : (c : Dev Cert.DwIdeal.nD) → Buf (Elt Ideal) ((c.tc : Thread Cert.DwIdeal.nD Cert.DwIdeal.τ).loc Cert.DwIdeal.main_v5_1)) (v2 : (c : Dev Cert.DwIdeal.nD) → Buf (Elt Ideal) ((c.tc : Thread Cert.DwIdeal.nD Cert.DwIdeal.τ).loc Cert.DwIdeal.main_v5_2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v5_0) = v0 c
          ∧ r.2.mem ((c.tc : Thread Cert.DwIdeal.nD Cert.DwIdeal.τ).loc Cert.DwIdeal.main_v5_1) = v1 c
          ∧ r.2.mem ((c.tc : Thread Cert.DwIdeal.nD Cert.DwIdeal.τ).loc Cert.DwIdeal.main_v5_2) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v27) = v0 c
          ∧ r.2.mem ((c.tc : Thread Cert.RefDwIdeal.nD Cert.RefDwIdeal.τ).loc Cert.RefDwIdeal.main_v33) = v1 c
          ∧ r.2.mem ((c.tc : Thread Cert.RefDwIdeal.nD Cert.RefDwIdeal.τ).loc Cert.RefDwIdeal.main_v34) = v2 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1)
          ∧ r.2.mem ((c.tc : Thread Cert.RefDwIdeal.nD Cert.RefDwIdeal.τ).loc Cert.RefDwIdeal.main_arg2) = m' ((c.tc : Thread Cert.RefDwIdeal.nD Cert.RefDwIdeal.τ).loc Cert.RefDwIdeal.main_arg2)
          ∧ r.2.mem ((c.tc : Thread Cert.RefDwIdeal.nD Cert.RefDwIdeal.τ).loc Cert.RefDwIdeal.main_arg3) = m' ((c.tc : Thread Cert.RefDwIdeal.nD Cert.RefDwIdeal.τ).loc Cert.RefDwIdeal.main_arg3)
          ∧ r.2.mem ((c.tc : Thread Cert.RefDwIdeal.nD Cert.RefDwIdeal.τ).loc Cert.RefDwIdeal.main_arg4) = m' ((c.tc : Thread Cert.RefDwIdeal.nD Cert.RefDwIdeal.τ).loc Cert.RefDwIdeal.main_arg4)
          ∧ r.2.mem ((c.tc : Thread Cert.RefDwIdeal.nD Cert.RefDwIdeal.τ).loc Cert.RefDwIdeal.main_arg5) = m' ((c.tc : Thread Cert.RefDwIdeal.nD Cert.RefDwIdeal.τ).loc Cert.RefDwIdeal.main_arg5))

def Claim : Prop :=
  ∃ (hDx : Cert.Dx.Facts) (hDxIdeal : Cert.DxIdeal.Facts) (hRefDxIdeal : Cert.RefDxIdeal.Facts) (hDw : Cert.Dw.Facts) (hDwIdeal : Cert.DwIdeal.Facts) (hRefDwIdeal : Cert.RefDwIdeal.Facts),
    quiescent_Dx (hDx := hDx)
    ∧ quiescent_DxIdeal (hDxIdeal := hDxIdeal)
    ∧ quiescent_RefDxIdeal (hRefDxIdeal := hRefDxIdeal)
    ∧ quiescent_Dw (hDw := hDw)
    ∧ quiescent_DwIdeal (hDwIdeal := hDwIdeal)
    ∧ quiescent_RefDwIdeal (hRefDwIdeal := hRefDwIdeal)
    ∧ preserves_Dx_DxIdeal
    ∧ algebraic_DxIdeal_RefDxIdeal (hDxIdeal := hDxIdeal) (hRefDxIdeal := hRefDxIdeal)
    ∧ preserves_Dw_DwIdeal
    ∧ algebraic_DwIdeal_RefDwIdeal (hDwIdeal := hDwIdeal) (hRefDwIdeal := hRefDwIdeal)
-- ==== Dx.lean ====
abbrev S24x512x2560 : Shape := ⟨3, ![24, 512, 2560]⟩
abbrev S24x512x6912 : Shape := ⟨3, ![24, 512, 6912]⟩
abbrev S_ : Shape := ⟨0, ![]⟩
abbrev S2560x1728 : Shape := ⟨2, ![2560, 1728]⟩
abbrev S12288x2560 : Shape := ⟨2, ![12288, 2560]⟩
abbrev S12288x6912 : Shape := ⟨2, ![12288, 6912]⟩
abbrev S1x1 : Shape := ⟨2, ![1, 1]⟩
abbrev S512x6912 : Shape := ⟨2, ![512, 6912]⟩
abbrev S512x2560 : Shape := ⟨2, ![512, 2560]⟩
abbrev S2560x6912 : Shape := ⟨2, ![2560, 6912]⟩
abbrev S256x128 : Shape := ⟨2, ![256, 128]⟩
abbrev S64x128 : Shape := ⟨2, ![64, 128]⟩
abbrev S64x128x1 : Shape := ⟨3, ![64, 128, 1]⟩
abbrev S256x64 : Shape := ⟨2, ![256, 64]⟩

abbrev nBuf : Space → Nat
  | .hbm => 12
  | .vmem => 6
  | .smem => 3
  | _ => 0

abbrev bufTy : (tb : Table) → Fin (tcTables nBuf tb) → BufTy
  | .hbm, ⟨0, _⟩ => ⟨S24x512x2560, .bf16⟩
  | .hbm, ⟨1, _⟩ => ⟨S24x512x6912, .fp8e5m2⟩
  | .hbm, ⟨2, _⟩ => ⟨S_, .f32⟩
  | .hbm, ⟨3, _⟩ => ⟨S2560x1728, .i8⟩
  | .hbm, ⟨4, _⟩ => ⟨S_, .f32⟩
  | .hbm, ⟨5, _⟩ => ⟨S_, .f32⟩
  | .hbm, ⟨6, _⟩ => ⟨S12288x2560, .bf16⟩
  | .hbm, ⟨7, _⟩ => ⟨S12288x6912, .fp8e5m2⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S12288x2560, .bf16⟩
  | .local _ .vmem, ⟨0, _⟩ => ⟨S2560x1728, .i8⟩
  | .local _ .vmem, ⟨1, _⟩ => ⟨S512x6912, .fp8e5m2⟩
  | .local _ .vmem, ⟨2, _⟩ => ⟨S512x6912, .fp8e5m2⟩
  | .local _ .vmem, ⟨3, _⟩ => ⟨S512x2560, .bf16⟩
  | .local _ .vmem, ⟨4, _⟩ => ⟨S512x2560, .bf16⟩
  | .local _ .vmem, ⟨5, _⟩ => ⟨S2560x6912, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c10_i32 : BitVec 32 := 10#32
  let v15 : BitVec 32 := Scalar.addi c0_i32_12 c10_i32
  let c1_i32 : BitVec 32 := 1#32
  ⟨c0_i32_12, v15, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  v16
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v18 : Index := Scalar.indexCast v17
  let c0_14 : Index := 0#32
  ![v18.toNat, 0]
def k0_off2 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v54 : Index := Scalar.indexCast v17
  let c0_22 : Index := 0#32
  ![v54.toNat, 0]
def k0_off3 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v94 : Index := Scalar.indexCast v17
  let c128 : Index := 128#32
  ![v94.toNat, 128]
def k0_off4 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v134 : Index := Scalar.indexCast v17
  let c256 : Index := 256#32
  ![v134.toNat, 256]
def k0_off5 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v174 : Index := Scalar.indexCast v17
  let c384 : Index := 384#32
  ![v174.toNat, 384]
def k0_off6 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v178 : Index := Scalar.indexCast v17
  let c128_56 : Index := 128#32
  ![v178.toNat, 128]
def k0_off7 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v214 : Index := Scalar.indexCast v17
  let c512 : Index := 512#32
  ![v214.toNat, 512]
def k0_off8 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v254 : Index := Scalar.indexCast v17
  let c640 : Index := 640#32
  ![v254.toNat, 640]
def k0_off9 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v294 : Index := Scalar.indexCast v17
  let c768 : Index := 768#32
  ![v294.toNat, 768]
def k0_off10 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v334 : Index := Scalar.indexCast v17
  let c896 : Index := 896#32
  ![v334.toNat, 896]
def k0_off11 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v338 : Index := Scalar.indexCast v17
  let c256_104 : Index := 256#32
  ![v338.toNat, 256]
def k0_off12 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v374 : Index := Scalar.indexCast v17
  let c1024 : Index := 1024#32
  ![v374.toNat, 1024]
def k0_off13 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v414 : Index := Scalar.indexCast v17
  let c1152 : Index := 1152#32
  ![v414.toNat, 1152]
def k0_off14 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v454 : Index := Scalar.indexCast v17
  let c1280 : Index := 1280#32
  ![v454.toNat, 1280]
def k0_off15 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v494 : Index := Scalar.indexCast v17
  let c1408 : Index := 1408#32
  ![v494.toNat, 1408]
def k0_off16 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v498 : Index := Scalar.indexCast v17
  let c384_152 : Index := 384#32
  ![v498.toNat, 384]
def k0_off17 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v534 : Index := Scalar.indexCast v17
  let c1536 : Index := 1536#32
  ![v534.toNat, 1536]
def k0_off18 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v574 : Index := Scalar.indexCast v17
  let c1664 : Index := 1664#32
  ![v574.toNat, 1664]
def k0_off19 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v614 : Index := Scalar.indexCast v17
  let c1792 : Index := 1792#32
  ![v614.toNat, 1792]
def k0_off20 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v654 : Index := Scalar.indexCast v17
  let c1920 : Index := 1920#32
  ![v654.toNat, 1920]
def k0_off21 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v658 : Index := Scalar.indexCast v17
  let c512_200 : Index := 512#32
  ![v658.toNat, 512]
def k0_off22 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v694 : Index := Scalar.indexCast v17
  let c2048 : Index := 2048#32
  ![v694.toNat, 2048]
def k0_off23 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v734 : Index := Scalar.indexCast v17
  let c2176 : Index := 2176#32
  ![v734.toNat, 2176]
def k0_off24 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v774 : Index := Scalar.indexCast v17
  let c2304 : Index := 2304#32
  ![v774.toNat, 2304]
def k0_off25 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v814 : Index := Scalar.indexCast v17
  let c2432 : Index := 2432#32
  ![v814.toNat, 2432]
def k0_off26 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v818 : Index := Scalar.indexCast v17
  let c640_248 : Index := 640#32
  ![v818.toNat, 640]
def k0_off27 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v854 : Index := Scalar.indexCast v17
  let c2560 : Index := 2560#32
  ![v854.toNat, 2560]
def k0_off28 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v894 : Index := Scalar.indexCast v17
  let c2688 : Index := 2688#32
  ![v894.toNat, 2688]
def k0_off29 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v934 : Index := Scalar.indexCast v17
  let c2816 : Index := 2816#32
  ![v934.toNat, 2816]
def k0_off30 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v974 : Index := Scalar.indexCast v17
  let c2944 : Index := 2944#32
  ![v974.toNat, 2944]
def k0_off31 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v978 : Index := Scalar.indexCast v17
  let c768_296 : Index := 768#32
  ![v978.toNat, 768]
def k0_off32 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1014 : Index := Scalar.indexCast v17
  let c3072 : Index := 3072#32
  ![v1014.toNat, 3072]
def k0_off33 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1054 : Index := Scalar.indexCast v17
  let c3200 : Index := 3200#32
  ![v1054.toNat, 3200]
def k0_off34 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1094 : Index := Scalar.indexCast v17
  let c3328 : Index := 3328#32
  ![v1094.toNat, 3328]
def k0_off35 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1134 : Index := Scalar.indexCast v17
  let c3456 : Index := 3456#32
  ![v1134.toNat, 3456]
def k0_off36 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1138 : Index := Scalar.indexCast v17
  let c896_344 : Index := 896#32
  ![v1138.toNat, 896]
def k0_off37 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1174 : Index := Scalar.indexCast v17
  let c3584 : Index := 3584#32
  ![v1174.toNat, 3584]
def k0_off38 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1214 : Index := Scalar.indexCast v17
  let c3712 : Index := 3712#32
  ![v1214.toNat, 3712]
def k0_off39 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1254 : Index := Scalar.indexCast v17
  let c3840 : Index := 3840#32
  ![v1254.toNat, 3840]
def k0_off40 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1294 : Index := Scalar.indexCast v17
  let c3968 : Index := 3968#32
  ![v1294.toNat, 3968]
def k0_off41 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1298 : Index := Scalar.indexCast v17
  let c1024_392 : Index := 1024#32
  ![v1298.toNat, 1024]
def k0_off42 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1334 : Index := Scalar.indexCast v17
  let c4096 : Index := 4096#32
  ![v1334.toNat, 4096]
def k0_off43 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1374 : Index := Scalar.indexCast v17
  let c4224 : Index := 4224#32
  ![v1374.toNat, 4224]
def k0_off44 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1414 : Index := Scalar.indexCast v17
  let c4352 : Index := 4352#32
  ![v1414.toNat, 4352]
def k0_off45 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1454 : Index := Scalar.indexCast v17
  let c4480 : Index := 4480#32
  ![v1454.toNat, 4480]
def k0_off46 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1458 : Index := Scalar.indexCast v17
  let c1152_440 : Index := 1152#32
  ![v1458.toNat, 1152]
def k0_off47 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1494 : Index := Scalar.indexCast v17
  let c4608 : Index := 4608#32
  ![v1494.toNat, 4608]
def k0_off48 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1534 : Index := Scalar.indexCast v17
  let c4736 : Index := 4736#32
  ![v1534.toNat, 4736]
def k0_off49 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1574 : Index := Scalar.indexCast v17
  let c4864 : Index := 4864#32
  ![v1574.toNat, 4864]
def k0_off50 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1614 : Index := Scalar.indexCast v17
  let c4992 : Index := 4992#32
  ![v1614.toNat, 4992]
def k0_off51 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1618 : Index := Scalar.indexCast v17
  let c1280_488 : Index := 1280#32
  ![v1618.toNat, 1280]
def k0_off52 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1654 : Index := Scalar.indexCast v17
  let c5120 : Index := 5120#32
  ![v1654.toNat, 5120]
def k0_off53 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1694 : Index := Scalar.indexCast v17
  let c5248 : Index := 5248#32
  ![v1694.toNat, 5248]
def k0_off54 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1734 : Index := Scalar.indexCast v17
  let c5376 : Index := 5376#32
  ![v1734.toNat, 5376]
def k0_off55 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1774 : Index := Scalar.indexCast v17
  let c5504 : Index := 5504#32
  ![v1774.toNat, 5504]
def k0_off56 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1778 : Index := Scalar.indexCast v17
  let c1408_536 : Index := 1408#32
  ![v1778.toNat, 1408]
def k0_off57 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1814 : Index := Scalar.indexCast v17
  let c5632 : Index := 5632#32
  ![v1814.toNat, 5632]
def k0_off58 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1854 : Index := Scalar.indexCast v17
  let c5760 : Index := 5760#32
  ![v1854.toNat, 5760]
def k0_off59 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1894 : Index := Scalar.indexCast v17
  let c5888 : Index := 5888#32
  ![v1894.toNat, 5888]
def k0_off60 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1934 : Index := Scalar.indexCast v17
  let c6016 : Index := 6016#32
  ![v1934.toNat, 6016]
def k0_off61 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1938 : Index := Scalar.indexCast v17
  let c1536_584 : Index := 1536#32
  ![v1938.toNat, 1536]
def k0_off62 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v1974 : Index := Scalar.indexCast v17
  let c6144 : Index := 6144#32
  ![v1974.toNat, 6144]
def k0_off63 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2014 : Index := Scalar.indexCast v17
  let c6272 : Index := 6272#32
  ![v2014.toNat, 6272]
def k0_off64 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2054 : Index := Scalar.indexCast v17
  let c6400 : Index := 6400#32
  ![v2054.toNat, 6400]
def k0_off65 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2094 : Index := Scalar.indexCast v17
  let c6528 : Index := 6528#32
  ![v2094.toNat, 6528]
def k0_off66 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2098 : Index := Scalar.indexCast v17
  let c1664_632 : Index := 1664#32
  ![v2098.toNat, 1664]
def k0_off67 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2135 : Index := Scalar.indexCast v17
  let c6656 : Index := 6656#32
  ![v2135.toNat, 6656]
def k0_off68 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v16 : BitVec 32 := Scalar.muli arg8 c256_i32
  let v17 : BitVec 32 := v16
  let v2176 : Index := Scalar.indexCast v17
  let c6784 : Index := 6784#32
  ![v2176.toNat, 6784]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x1728 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6912 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDxIdeal.lean ====
abbrev S24x512x2560 : Shape := ⟨3, ![24, 512, 2560]⟩
abbrev S24x512x6912 : Shape := ⟨3, ![24, 512, 6912]⟩
abbrev S_ : Shape := ⟨0, ![]⟩
abbrev S2560x1728 : Shape := ⟨2, ![2560, 1728]⟩
abbrev S4 : Shape := ⟨1, ![4]⟩
abbrev S2560x1728x1 : Shape := ⟨3, ![2560, 1728, 1]⟩
abbrev S1x1x4 : Shape := ⟨3, ![1, 1, 4]⟩
abbrev S2560x1728x4 : Shape := ⟨3, ![2560, 1728, 4]⟩
abbrev S24x512x1728x4 : Shape := ⟨4, ![24, 512, 1728, 4]⟩
abbrev S12288x2560 : Shape := ⟨2, ![12288, 2560]⟩

abbrev nBuf : Space → Nat
  | .hbm => 42
  | .vmem => 2
  | .smem => 0
  | _ => 0

abbrev bufTy : (tb : Table) → Fin (tcTables nBuf tb) → BufTy
  | .hbm, ⟨0, _⟩ => ⟨S24x512x2560, .bf16⟩
  | .hbm, ⟨1, _⟩ => ⟨S24x512x6912, .fp8e5m2⟩
  | .hbm, ⟨2, _⟩ => ⟨S_, .f32⟩
  | .hbm, ⟨3, _⟩ => ⟨S2560x1728, .i8⟩
  | .hbm, ⟨4, _⟩ => ⟨S_, .f32⟩
  | .hbm, ⟨5, _⟩ => ⟨S_, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S2560x1728, .i32⟩
  | .hbm, ⟨12, _⟩ => ⟨S2560x1728x1, .i32⟩
  | .hbm, ⟨13, _⟩ => ⟨S1x1x4, .i32⟩
  | .hbm, ⟨14, _⟩ => ⟨S2560x1728x4, .i32⟩
  | .hbm, ⟨15, _⟩ => ⟨S2560x1728x4, .i32⟩
  | .hbm, ⟨16, _⟩ => ⟨S2560x1728x4, .i32⟩
  | .hbm, ⟨17, _⟩ => ⟨S_, .i32⟩
  | .hbm, ⟨18, _⟩ => ⟨S2560x1728x4, .i32⟩
  | .hbm, ⟨19, _⟩ => ⟨S2560x1728x4, .i32⟩
  | .hbm, ⟨20, _⟩ => ⟨S_, .i32⟩
  | .hbm, ⟨21, _⟩ => ⟨S2560x1728x4, .i32⟩
  | .hbm, ⟨22, _⟩ => ⟨S2560x1728x4, .i1⟩
  | .hbm, ⟨23, _⟩ => ⟨S_, .i32⟩
  | .hbm, ⟨24, _⟩ => ⟨S2560x1728x4, .i32⟩
  | .hbm, ⟨25, _⟩ => ⟨S2560x1728x4, .i1⟩
  | .hbm, ⟨26, _⟩ => ⟨S24x512x6912, .bf16⟩
  | .hbm, ⟨27, _⟩ => ⟨S_, .bf16⟩
  | .hbm, ⟨28, _⟩ => ⟨S_, .f32⟩
  | .hbm, ⟨29, _⟩ => ⟨S_, .bf16⟩
  | .hbm, ⟨30, _⟩ => ⟨S_, .bf16⟩
  | .hbm, ⟨31, _⟩ => ⟨S2560x1728x4, .bf16⟩
  | .hbm, ⟨32, _⟩ => ⟨S2560x1728x4, .bf16⟩
  | .hbm, ⟨33, _⟩ => ⟨S2560x1728x4, .bf16⟩
  | .hbm, ⟨34, _⟩ => ⟨S2560x1728x4, .bf16⟩
  | .hbm, ⟨35, _⟩ => ⟨S2560x1728x4, .bf16⟩
  | .hbm, ⟨36, _⟩ => ⟨S24x512x1728x4, .bf16⟩
  | .hbm, ⟨37, _⟩ => ⟨S24x512x2560, .f32⟩
  | .hbm, ⟨38, _⟩ => ⟨S24x512x2560, .f32⟩
  | .hbm, ⟨39, _⟩ => ⟨S24x512x2560, .f32⟩
  | .hbm, ⟨40, _⟩ => ⟨S24x512x2560, .bf16⟩
  | .hbm, ⟨41, _⟩ => ⟨S12288x2560, .bf16⟩
  | .local _ .vmem, ⟨0, _⟩ => ⟨S24x512x6912, .fp8e5m2⟩
  | .local _ .vmem, ⟨1, _⟩ => ⟨S24x512x6912, .bf16⟩
  | _, _ => ⟨S24x512x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x512x6912 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x512x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Dw.lean ====
abbrev S24x512x2560 : Shape := ⟨3, ![24, 512, 2560]⟩
abbrev S24x512x6912 : Shape := ⟨3, ![24, 512, 6912]⟩
abbrev S_ : Shape := ⟨0, ![]⟩
abbrev S2560x1728 : Shape := ⟨2, ![2560, 1728]⟩
abbrev S12288x2560 : Shape := ⟨2, ![12288, 2560]⟩
abbrev S12288x6912 : Shape := ⟨2, ![12288, 6912]⟩
abbrev S1x1 : Shape := ⟨2, ![1, 1]⟩
abbrev S2560x6912 : Shape := ⟨2, ![2560, 6912]⟩
abbrev S2560x128 : Shape := ⟨2, ![2560, 128]⟩
abbrev S2048x2560 : Shape := ⟨2, ![2048, 2560]⟩
abbrev S2048x768 : Shape := ⟨2, ![2048, 768]⟩
abbrev S2560x768 : Shape := ⟨2, ![2560, 768]⟩
abbrev S2x8x128 : Shape := ⟨3, ![2, 8, 128]⟩
abbrev S256x128 : Shape := ⟨2, ![256, 128]⟩
abbrev S64x128 : Shape := ⟨2, ![64, 128]⟩
abbrev S64x128x1 : Shape := ⟨3, ![64, 128, 1]⟩
abbrev S1x8x128 : Shape := ⟨3, ![1, 8, 128]⟩
abbrev S8x128 : Shape := ⟨2, ![8, 128]⟩
abbrev S32x8x128 : Shape := ⟨3, ![32, 8, 128]⟩
abbrev S1 : Shape := ⟨1, ![1]⟩
abbrev S1x1x1 : Shape := ⟨3, ![1, 1, 1]⟩

abbrev nBuf : Space → Nat
  | .hbm => 14
  | .vmem => 11
  | .smem => 5
  | _ => 0

abbrev bufTy : (tb : Table) → Fin (tcTables nBuf tb) → BufTy
  | .hbm, ⟨0, _⟩ => ⟨S24x512x2560, .bf16⟩
  | .hbm, ⟨1, _⟩ => ⟨S24x512x6912, .fp8e5m2⟩
  | .hbm, ⟨2, _⟩ => ⟨S_, .f32⟩
  | .hbm, ⟨3, _⟩ => ⟨S2560x1728, .i8⟩
  | .hbm, ⟨4, _⟩ => ⟨S_, .f32⟩
  | .hbm, ⟨5, _⟩ => ⟨S_, .f32⟩
  | .hbm, ⟨6, _⟩ => ⟨S12288x2560, .bf16⟩
  | .hbm, ⟨7, _⟩ => ⟨S12288x6912, .fp8e5m2⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S2560x6912, .f32⟩
  | .hbm, ⟨12, _⟩ => ⟨S1x1, .f32⟩
  | .hbm, ⟨13, _⟩ => ⟨S1x1, .f32⟩
  | .local _ .vmem, ⟨0, _⟩ => ⟨S2560x128, .i8⟩
  | .local _ .vmem, ⟨1, _⟩ => ⟨S2560x128, .i8⟩
  | .local _ .vmem, ⟨2, _⟩ => ⟨S2560x128, .i8⟩
  | .local _ .vmem, ⟨3, _⟩ => ⟨S2560x128, .i8⟩
  | .local _ .vmem, ⟨4, _⟩ => ⟨S2048x2560, .bf16⟩
  | .local _ .vmem, ⟨5, _⟩ => ⟨S2048x2560, .bf16⟩
  | .local _ .vmem, ⟨6, _⟩ => ⟨S2048x768, .fp8e5m2⟩
  | .local _ .vmem, ⟨7, _⟩ => ⟨S2048x768, .fp8e5m2⟩
  | .local _ .vmem, ⟨8, _⟩ => ⟨S2560x768, .f32⟩
  | .local _ .vmem, ⟨9, _⟩ => ⟨S2560x768, .f32⟩
  | .local _ .vmem, ⟨10, _⟩ => ⟨S2x8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg8_0 : Ref sig .tc := ⟨.smem, 3, rfl⟩
abbrev cc0_stg9_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![9, 6], ![false, false]⟩

def k0_cond3 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_11 : BitVec 32 := 0#32
  let v20 : BitVec 1 := Scalar.cmpi .ne v19 c0_i32_11
  v20

@[reducible] def k0_t1_loop : Scf.Loop 32 :=
  let c0_i32_22 : BitVec 32 := 0#32
  let c10_i32 : BitVec 32 := 10#32
  let v35 : BitVec 32 := Scalar.addi c0_i32_22 c10_i32
  let c1_i32_23 : BitVec 32 := 1#32
  ⟨c0_i32_22, v35, c1_i32_23⟩
def k0_mult1 (k0_t1 : Fin k0_t1_loop.trips) : BitVec 32 :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  v39
def k0_off1 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v41 : Index := Scalar.indexCast v40
  let c0_26 : Index := 0#32
  ![v41.toNat, 0]
def k0_off2 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v84 : Index := Scalar.indexCast v40
  let c0_39 : Index := 0#32
  ![v84.toNat, 0]
def k0_off3 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v160 : Index := Scalar.indexCast v40
  let c128 : Index := 128#32
  ![v160.toNat, 128]
def k0_off4 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v236 : Index := Scalar.indexCast v40
  let c256 : Index := 256#32
  ![v236.toNat, 256]
def k0_off5 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v312 : Index := Scalar.indexCast v40
  let c384 : Index := 384#32
  ![v312.toNat, 384]
def k0_off6 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v388 : Index := Scalar.indexCast v40
  let c512 : Index := 512#32
  ![v388.toNat, 512]
def k0_off7 (k0_t1 : Fin k0_t1_loop.trips) : Fin 2 → Nat :=
  let c0_i32_22 : BitVec 32 := 0#32
  let c1_i32_23 : BitVec 32 := 1#32
  let arg13 : BitVec 32 := Scf.iv c0_i32_22 c1_i32_23 k0_t1
  let c256_i32 : BitVec 32 := 256#32
  let v39 : BitVec 32 := Scalar.muli arg13 c256_i32
  let v40 : BitVec 32 := v39
  let v464 : Index := Scalar.indexCast v40
  let c640 : Index := 640#32
  ![v464.toNat, 640]
def k0_cond4 (i : grid0.Coords) : BitVec 1 :=
  let arg0 : BitVec 32 := BitVec.ofNat 32 (i 0).val
  let c8_i32 : BitVec 32 := 8#32
  let v36 : BitVec 1 := Scalar.cmpi .eq arg0 c8_i32
  let v37 : BitVec 32 := Scalar.extui v36
  let c0_i32_25 : BitVec 32 := 0#32
  let v38 : BitVec 1 := Scalar.cmpi .ne v37 c0_i32_25
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32 : BitVec 32 := 128#32
  let v18 : BitVec 32 := Scalar.divsi v17 c128_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c128_i32 c0_i32_6
  let v25 : BitVec 32 := Scalar.extui v24
  let c0_i32_7 : BitVec 32 := 0#32
  let v26 : BitVec 1 := Scalar.cmpi .slt c128_i32 c0_i32_7
  let v27 : BitVec 32 := Scalar.extui v26
  let v28 : BitVec 32 := Scalar.subi v25 v27
  let v29 : BitVec 1 := Scalar.cmpi .ne v23 v28
  let v30 : BitVec 32 := Scalar.remsi v17 c128_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c0_i32_10 : BitVec 32 := 0#32
  let c0_i32_11 : BitVec 32 := 0#32
  ![c0_i32_10.toNat, v34.toNat]

def cc0_transform_4 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32 : BitVec 32 := 128#32
  let v18 : BitVec 32 := Scalar.divsi v17 c128_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c128_i32 c0_i32_6
  let v25 : BitVec 32 := Scalar.extui v24
  let c0_i32_7 : BitVec 32 := 0#32
  let v26 : BitVec 1 := Scalar.cmpi .slt c128_i32 c0_i32_7
  let v27 : BitVec 32 := Scalar.extui v26
  let v28 : BitVec 32 := Scalar.subi v25 v27
  let v29 : BitVec 1 := Scalar.cmpi .ne v23 v28
  let v30 : BitVec 32 := Scalar.remsi v17 c128_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c1_i32_10 : BitVec 32 := 1#32
  let v35 : BitVec 32 := Scalar.addi v34 c1_i32_10
  let c0_i32_11 : BitVec 32 := 0#32
  let c0_i32_12 : BitVec 32 := 0#32
  ![c0_i32_11.toNat, v35.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2560x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2560x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x768 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2560x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== RefDwIdeal.lean ====
abbrev S24x512x2560 : Shape := ⟨3, ![24, 512, 2560]⟩
abbrev S24x512x6912 : Shape := ⟨3, ![24, 512, 6912]⟩
abbrev S_ : Shape := ⟨0, ![]⟩
abbrev S2560x1728 : Shape := ⟨2, ![2560, 1728]⟩
abbrev S4 : Shape := ⟨1, ![4]⟩
abbrev S2560x1728x1 : Shape := ⟨3, ![2560, 1728, 1]⟩
abbrev S1x1x4 : Shape := ⟨3, ![1, 1, 4]⟩
abbrev S2560x1728x4 : Shape := ⟨3, ![2560, 1728, 4]⟩
abbrev S2560x6912 : Shape := ⟨2, ![2560, 6912]⟩
abbrev S1x1 : Shape := ⟨2, ![1, 1]⟩

abbrev nBuf : Space → Nat
  | .hbm => 53
  | .vmem => 2
  | .smem => 0
  | _ => 0

abbrev bufTy : (tb : Table) → Fin (tcTables nBuf tb) → BufTy
  | .hbm, ⟨0, _⟩ => ⟨S24x512x2560, .bf16⟩
  | .hbm, ⟨1, _⟩ => ⟨S24x512x6912, .fp8e5m2⟩
  | .hbm, ⟨2, _⟩ => ⟨S_, .f32⟩
  | .hbm, ⟨3, _⟩ => ⟨S2560x1728, .i8⟩
  | .hbm, ⟨4, _⟩ => ⟨S_, .f32⟩
  | .hbm, ⟨5, _⟩ => ⟨S_, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S2560x1728, .i32⟩
  | .hbm, ⟨12, _⟩ => ⟨S2560x1728x1, .i32⟩
  | .hbm, ⟨13, _⟩ => ⟨S1x1x4, .i32⟩
  | .hbm, ⟨14, _⟩ => ⟨S2560x1728x4, .i32⟩
  | .hbm, ⟨15, _⟩ => ⟨S2560x1728x4, .i32⟩
  | .hbm, ⟨16, _⟩ => ⟨S2560x1728x4, .i32⟩
  | .hbm, ⟨17, _⟩ => ⟨S_, .i32⟩
  | .hbm, ⟨18, _⟩ => ⟨S2560x1728x4, .i32⟩
  | .hbm, ⟨19, _⟩ => ⟨S2560x1728x4, .i32⟩
  | .hbm, ⟨20, _⟩ => ⟨S_, .i32⟩
  | .hbm, ⟨21, _⟩ => ⟨S2560x1728x4, .i32⟩
  | .hbm, ⟨22, _⟩ => ⟨S2560x1728x4, .i1⟩
  | .hbm, ⟨23, _⟩ => ⟨S_, .i32⟩
  | .hbm, ⟨24, _⟩ => ⟨S2560x1728x4, .i32⟩
  | .hbm, ⟨25, _⟩ => ⟨S2560x1728x4, .i1⟩
  | .hbm, ⟨26, _⟩ => ⟨S24x512x6912, .bf16⟩
  | .hbm, ⟨27, _⟩ => ⟨S2560x6912, .f32⟩
  | .hbm, ⟨28, _⟩ => ⟨S2560x6912, .f32⟩
  | .hbm, ⟨29, _⟩ => ⟨S2560x6912, .f32⟩
  | .hbm, ⟨30, _⟩ => ⟨S2560x1728x4, .f32⟩
  | .hbm, ⟨31, _⟩ => ⟨S2560x1728x4, .f32⟩
  | .hbm, ⟨32, _⟩ => ⟨S2560x1728x4, .f32⟩
  | .hbm, ⟨33, _⟩ => ⟨S2560x1728x4, .f32⟩
  | .hbm, ⟨34, _⟩ => ⟨S2560x1728x4, .f32⟩
  | .hbm, ⟨35, _⟩ => ⟨S2560x1728x4, .f32⟩
  | .hbm, ⟨36, _⟩ => ⟨S2560x1728x4, .f32⟩
  | .hbm, ⟨37, _⟩ => ⟨S2560x6912, .f32⟩
  | .hbm, ⟨38, _⟩ => ⟨S_, .f32⟩
  | .hbm, ⟨39, _⟩ => ⟨S_, .f32⟩
  | .hbm, ⟨40, _⟩ => ⟨S2560x1728x4, .f32⟩
  | .hbm, ⟨41, _⟩ => ⟨S2560x1728x4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2560x1728x4, .f32⟩
  | .hbm, ⟨47, _⟩ => ⟨S2560x1728x4, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x1, .f32⟩
  | .hbm, ⟨52, _⟩ => ⟨S1x1, .f32⟩
  | .local _ .vmem, ⟨0, _⟩ => ⟨S24x512x6912, .fp8e5m2⟩
  | .local _ .vmem, ⟨1, _⟩ => ⟨S24x512x6912, .bf16⟩
  | _, _ => ⟨S24x512x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x512x6912 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x512x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Decode.lean ====
module

public import Idealize.ShloMosaic.Lib.BitcastFour
public import Idealize.ShloMosaic.Lib.Pipeline.Value
public import Idealize.ShloMosaic.Lib.Pipeline.CanonAppend
public import Idealize.ShloMosaic.Lib.Pipeline.ReadBack

@[expose] public section

set_option maxRecDepth 16384

noncomputable section

/-!
The kernel's decode of packed two-bit region codes, read at one element.

A tile of 256 × 128 bytes is reread as 64 × 128 words, each lane gathers the word of the lane that holds its field, shifts it to the
low bits of each byte, masks two bits of each byte and rereads the words as bytes. The element at row `r`, lane `l` is two-bit field
`l % 4` of the byte at row `r`, lane `off + l / 4`.
-/

namespace Cert.Region

open Idealize.ShloMosaic Idealize.ShloMosaic.ValueIdx

/-- A 256 × 128 tile, -/
abbrev T256 : Shape := ⟨2, ![256, 128]⟩
/-- the same bytes as 64 × 128 words, -/
abbrev T64 : Shape := ⟨2, ![64, 128]⟩
/-- and those words with a trailing unit axis. -/
abbrev T64x1 : Shape := ⟨3, ![64, 128, 1]⟩

/-- Two-bit field `q` of a byte, as a 32-bit word. -/
def fld (b : BitVec 8) (q : ℕ) : BitVec 32 := ((b >>> (2 * q)) &&& 3#8).setWidth 32

theorem bc₁ : T256.Bitcasts 8 T64 32 := by decide
theorem bc₂ : T64.Bitcasts 32 T256 8 := by decide
theorem io : T64.Iotas .tc 32 [1] := by decide
theorem sc₁ : T64.ShapeCasts T64x1 := by decide
theorem sc₂ : T64x1.ShapeCasts T64 := by decide

/-- The lane a lane gathers from: `l / 4 + off`, made non-negative the way the gather's index is normalised. -/
def laneIdx (off : BitVec 32) : IVec T64 32 :=
  select (cmpi .slt (addi (shrsi (iota .tc T64 32 [1] io) (broadcast T64 2#32)) (broadcast T64 off)) (broadcast T64 0#32))
    (addi (addi (shrsi (iota .tc T64 32 [1] io) (broadcast T64 2#32)) (broadcast T64 off)) (broadcast T64 128#32))
    (addi (shrsi (iota .tc T64 32 [1] io) (broadcast T64 2#32)) (broadcast T64 off))

/-- The kernel's decode of one tile of bytes. -/
def decode (c : IVec T256 8) (off : BitVec 32) : IVec T256 32 :=
  extsi 32 (bitcast T256 8
    (andi (shrui (dynamicGather 1 (bitcast T64 32 c bc₁) (shapeCast T64 (shapeCast T64x1 (laneIdx off) sc₁) sc₂))
      (muli (andi (iota .tc T64 32 [1] io) (broadcast T64 3#32)) (broadcast T64 2#32))) (broadcast T64 50529027#32)) bc₂) (by decide)

/-- The gathered lane is `l / 4 + off`, for an offset that stays inside the tile. -/
theorem laneIdx_apply (off : BitVec 32) (hoff : off.toNat ≤ 96) (a : Fin 64) (l : Fin 128) :
    laneIdx off (ix2 a l) = BitVec.ofNat 32 (l.val / 4 + off.toNat) := by
  have h : ∀ l : Fin 128, ∀ o : Fin 97,
      Scalar.select (IntOp.cmpi .slt (IntOp.addi (IntOp.shrsi .vector (BitVec.ofNat 32 l.val) 2#32) (BitVec.ofNat 32 o.val)) 0#32)
        (IntOp.addi (IntOp.addi (IntOp.shrsi .vector (BitVec.ofNat 32 l.val) 2#32) (BitVec.ofNat 32 o.val)) 128#32)
        (IntOp.addi (IntOp.shrsi .vector (BitVec.ofNat 32 l.val) 2#32) (BitVec.ofNat 32 o.val))
      = BitVec.ofNat 32 (l.val / 4 + o.val) := by decide +kernel
  have h' := h l ⟨off.toNat, by omega⟩
  rw [show BitVec.ofNat 32 (⟨off.toNat, by omega⟩ : Fin 97).val = off from BitVec.ofNat_toNat .. |>.trans (by simp)] at h'
  rw [← h']
  show Scalar.select (IntOp.cmpi .slt (IntOp.addi (IntOp.shrsi .vector (iota .tc T64 32 [1] io (ix2 a l)) 2#32) off) 0#32) _ _ = _
  have hi : iota .tc T64 32 [1] io (ix2 a l) = BitVec.ofNat 32 l.val := by
    show BitVec.ofNat 32 (0 * 128 + l.val) = _; rw [Nat.zero_mul, Nat.zero_add]
  simp only [addi, shrsi, hi, broadcast]

/-- The mask's bits: bits 0 and 1 of every byte. -/
theorem mask_getLsbD : ∀ q : Fin 4, ∀ i : Fin 8, (50529027#32 : BitVec 32).getLsbD (8 * q.val + i.val) = decide (i.val < 2) := by
  decide +kernel

/-- The shift of lane `l`: twice its field number. -/
theorem shamt (l : Fin 128) : IntOp.muli (IntOp.andi (BitVec.ofNat 32 l.val) 3#32) 2#32 = BitVec.ofNat 32 (2 * (l.val % 4)) := by
  revert l; decide +kernel

theorem three_getLsbD : ∀ i : Fin 8, (3#8 : BitVec 8).getLsbD i.val = decide (i.val < 2) := by decide +kernel

theorem sext_and3 : ∀ b : BitVec 8, (b &&& 3#8).signExtend 32 = (b &&& 3#8).setWidth 32 := by decide +kernel

/-- The decode at row `r`, lane `l` is field `l % 4` of the byte at row `r`, lane `off + l / 4`. -/
theorem decode_apply (c : IVec T256 8) (off : BitVec 32) (hoff : off.toNat ≤ 96) (r : Fin 256) (l : Fin 128) :
    decode c off (ix2 r l) = fld (c (ix2 r ⟨l.val / 4 + off.toNat, by omega⟩)) (l.val % 4) := by
  have key : bitcast T256 8
      (andi (shrui (dynamicGather 1 (bitcast T64 32 c bc₁) (shapeCast T64 (shapeCast T64x1 (laneIdx off) sc₁) sc₂))
        (muli (andi (iota .tc T64 32 [1] io) (broadcast T64 3#32)) (broadcast T64 2#32))) (broadcast T64 50529027#32)) bc₂ (ix2 r l)
      = (c (ix2 r ⟨l.val / 4 + off.toNat, by omega⟩) >>> (2 * (l.val % 4))) &&& 3#8 := by
    apply BitVec.eq_of_getLsbD_eq
    intro i hi
    rw [bitcast_getLsbD _ bc₂ (ix2 r l) i hi (by decide)]
    have hrow : T256.row (ix2 r l) = r.val := rfl
    have hsrc : bc₂.srcIdx (ix2 r l) ((T256.row (ix2 r l) * 8 + i) / 32) (fun a ha =>
          (Nat.div_lt_iff_lt_mul (by decide)).2 (bc₂.pos_lt (ix2 r l) i hi a ha)) = ix2 (⟨r.val / 4, by omega⟩ : Fin 64) l := by
      funext a
      match a with
      | ⟨0, _⟩ =>
        exact Fin.ext ((bc₂.srcIdx_row _ _ _ ⟨0, Nat.zero_lt_two⟩ rfl).trans (by rw [hrow]; show (r.val * 8 + i) / 32 = r.val / 4; omega))
      | ⟨1, _⟩ => exact Fin.ext (bc₂.srcIdx_other _ _ _ ⟨1, Nat.one_lt_two⟩ (by show ¬ 1 + 2 = 2; omega))
    rw [hsrc, hrow]
    have hbit : (r.val * 8 + i) % 32 = 8 * (r.val % 4) + i := by omega
    rw [hbit, shapeCast_shapeCast]
    show (IntOp.andi (IntOp.shrui .vector (bitcast T64 32 c bc₁ _) (IntOp.muli (IntOp.andi (iota .tc T64 32 [1] io _) 3#32) 2#32)) 50529027#32).getLsbD _ = _
    have hio : iota .tc T64 32 [1] io (ix2 (⟨r.val / 4, by omega⟩ : Fin 64) l) = BitVec.ofNat 32 l.val := by
      show BitVec.ofNat 32 (0 * 128 + l.val) = _; rw [Nat.zero_mul, Nat.zero_add]
    rw [hio, shamt]
    have hg : (fun b : Fin T64.rank => if b = 1 then (⟨(laneIdx off (ix2 (⟨r.val / 4, by omega⟩ : Fin 64) l)).toNat % T64.size b,
        Nat.mod_lt _ (Fin.pos ((ix2 (⟨r.val / 4, by omega⟩ : Fin 64) l : T64.Idx) b))⟩ : Fin (T64.size b)) else (ix2 (⟨r.val / 4, by omega⟩ : Fin 64) l : T64.Idx) b)
        = (ix2 (⟨r.val / 4, by omega⟩ : Fin 64) ⟨l.val / 4 + off.toNat, by omega⟩ : T64.Idx) := by
      funext b
      match b with
      | ⟨0, _⟩ => rfl
      | ⟨1, _⟩ =>
        refine Fin.ext ?_
        show (laneIdx off (ix2 (⟨r.val / 4, by omega⟩ : Fin 64) l)).toNat % 128 = l.val / 4 + off.toNat
        rw [laneIdx_apply off hoff, BitVec.toNat_ofNat]
        omega
    rw [hg]
    have hs : IntOp.shrui .vector (bitcast T64 32 c bc₁ (ix2 (⟨r.val / 4, by omega⟩ : Fin 64) ⟨l.val / 4 + off.toNat, by omega⟩)) (BitVec.ofNat 32 (2 * (l.val % 4)))
        = bitcast T64 32 c bc₁ (ix2 (⟨r.val / 4, by omega⟩ : Fin 64) ⟨l.val / 4 + off.toNat, by omega⟩) >>> (2 * (l.val % 4)) := by
      have ht : (BitVec.ofNat 32 (2 * (l.val % 4))).toNat = 2 * (l.val % 4) := by rw [BitVec.toNat_ofNat]; omega
      unfold IntOp.shrui
      rw [if_pos (by rw [ht]; omega)]
      rw [BitVec.ushiftRight_eq', ht]
    rw [hs]
    show (_ &&& (50529027#32 : BitVec 32)).getLsbD _ = _
    rw [BitVec.getLsbD_and, BitVec.getLsbD_and, BitVec.getLsbD_ushiftRight, BitVec.getLsbD_ushiftRight,
      mask_getLsbD ⟨r.val % 4, by omega⟩ ⟨i, hi⟩, three_getLsbD ⟨i, hi⟩]
    by_cases h2 : i < 2
    · have hq : 2 * (l.val % 4) + (8 * (r.val % 4) + i) < 32 := by omega
      rw [bitcast_8_32_getLsbD_ix2 c bc₁ ⟨r.val / 4, by omega⟩ ⟨l.val / 4 + off.toNat, by omega⟩ _ hq r (by show r.val = 4 * (r.val / 4) + _; omega)]
      rw [show (2 * (l.val % 4) + (8 * (r.val % 4) + i)) % 8 = 2 * (l.val % 4) + i by omega]
    · simp [h2]
  show ((bitcast T256 8 _ bc₂ (ix2 r l) : BitVec 8)).signExtend 32 = _
  rw [key]
  exact sext_and3 _

end Cert.Region

end
-- ==== Proof.DxBlock.lean ====
module

public import proofs.«01_k».proof.Proof.Gen.DxIdeal.Frame
public import proofs.«01_k».proof.Proof.Decode
public import Idealize.ShloMosaic.Lib.Pipeline.CanonAppend
public import Idealize.ShloMosaic.Lib.Pipeline.ReadBack
public import Idealize.ShloMosaic.Lib.KernelVsHost

@[expose] public section

set_option maxRecDepth 16384

set_option pp.maxSteps 300

noncomputable section

/-!
What the first grid point of the `dx` kernel leaves in its scratch: the decoded weights.
-/

namespace Cert.DxIdeal.Val

open Cert.DxIdeal Cert.DxIdeal.Gen Cert.Region
open Idealize.ShloMosaic Idealize.ShloMosaic.ValueIdx Idealize.ShloMosaic.TcCoe

/-- The weight a region field selects: `wp` for 1, the negated `wn` for 2, zero otherwise. -/
def wsel (wp wn : EReal) (f : BitVec 32) : EReal := if f = 1#32 then wp else if f = 2#32 then -wn else 0

/-- The decoded weights over the packed codes `X`: at row `d`, lane `f`, by field `f % 4` of byte `(d, f / 4)`. -/
def wt (X : S2560x1728.Idx → BitVec 8) (wp wn : EReal) : S2560x6912.Idx → EReal := fun y =>
  wsel wp wn (fld (X (ix2 (y 0) ⟨(y 1).val / 4, by have h : (y 1).val < 6912 := (y 1).isLt; omega⟩)) ((y 1).val % 4))

/-- The weights the kernel selects from a tile of decoded fields. -/
def wdec (wp wn : Ideal .f32) (f : IVec T256 32) : FVec Ideal T256 .bf16 :=
  shapeCast T256 (truncf .bf16 (select (cmpi .eq f (broadcast T256 1#32)) (broadcast T256 wp)
    (select (cmpi .eq f (broadcast T256 2#32)) (broadcast T256 (Scalar.subf (F := Ideal) (φ := .f32) (Scalar.ofBits .f32 0x00000000#32) wn))
      (broadcast T256 (Scalar.ofBits .f32 0x00000000#32)))) (by decide)) (by decide)

/-- A tile's selected weight at an element. -/
theorem wdec_apply (wp wn : Ideal .f32) (f : IVec T256 32) (y : T256.Idx) : wdec wp wn f y = wsel wp wn (f y) := by
  unfold wdec
  rw [shapeCast_self]
  show Scalar.select (IntOp.cmpi .eq (f y) 1#32) wp (Scalar.select (IntOp.cmpi .eq (f y) 2#32) (Ideal.ofBits .f32 0x00000000#32 - wn)
    (Ideal.ofBits .f32 0x00000000#32)) = _
  have hz : Ideal.ofBits .f32 0x00000000#32 = 0 := Ideal.ofBits_zero_f32
  rw [hz, zero_sub]
  have hc : ∀ (a b : BitVec 32) (u v : EReal), Scalar.select (IntOp.cmpi .eq a b) u v = if a = b then u else v := fun a b u v => by
    unfold Scalar.select IntOp.cmpi
    by_cases h : a = b
    · simp [h]
    · have h' : (a == b) = false := by simpa using h
      simp [h, h']
  rw [hc, hc]
  rfl

/-- A tile's store is the tile of `wt` its rectangle names. -/
theorem tile_eq (X : S2560x1728.Idx → BitVec 8) (wp wn : EReal) (k t : ℕ) (off : Fin 2 → ℕ) (hoff : off = ![256 * k, 128 * t])
    (inb : ∀ a, off a + S256x128.size a ≤ S2560x6912.size a) (ow : BitVec 32) (how : ow.toNat ≤ 96) (c : IVec T256 8)
    (hc : ∀ (r : Fin 256) (l : Fin 128), ∀ (hr : 256 * k + r.val < 2560) (hl : 32 * t + l.val / 4 < 1728),
      c (ix2 r ⟨l.val / 4 + ow.toNat, by omega⟩) = X (ix2 ⟨256 * k + r.val, hr⟩ ⟨32 * t + l.val / 4, hl⟩))
    (y : S256x128.Idx) : wdec wp wn (decode c ow) y = wt X wp wn ((Rect.unit (s := S2560x6912) off S256x128.size inb).emb y) := by
  subst hoff
  obtain ⟨r, l, rfl⟩ : ∃ (r : Fin 256) (l : Fin 128), y = ix2 r l := ⟨_, _, eq_ix2 y⟩
  have h0 : 256 * k + 256 ≤ 2560 := inb 0
  have h1 : 128 * t + 128 ≤ 6912 := inb 1
  rw [wdec_apply, decode_apply c ow how, hc r l (by omega) (by omega)]
  have e0 : ((Rect.unit (s := S2560x6912) ![256 * k, 128 * t] S256x128.size inb).emb (ix2 r l) 0 : ℕ) = 256 * k + 1 * r.val := rfl
  have e1 : ((Rect.unit (s := S2560x6912) ![256 * k, 128 * t] S256x128.size inb).emb (ix2 r l) 1 : ℕ) = 128 * t + 1 * l.val := rfl
  unfold wt
  have hm : ((Rect.unit (s := S2560x6912) ![256 * k, 128 * t] S256x128.size inb).emb (ix2 r l) 1 : ℕ) % 4 = l.val % 4 := by rw [e1]; omega
  rw [hm]
  congr 3
  funext a
  match a with
  | ⟨0, _⟩ => exact Fin.ext (by show 256 * k + r.val = _ ; rw [Nat.one_mul] at e0; exact e0.symm)
  | ⟨1, _⟩ => exact Fin.ext (by show 32 * t + l.val / 4 = ((Rect.unit (s := S2560x6912) ![256 * k, 128 * t] S256x128.size inb).emb (ix2 r l) 1 : ℕ) / 4; rw [e1]; omega)

/-- The same, for a tile loaded whole from 128 lanes of codes. -/
theorem tile_piece (X : S2560x1728.Idx → BitVec 8) (wp wn : EReal) (k t lo : ℕ) (off off' : Fin 2 → ℕ) (hoff : off = ![256 * k, 128 * t])
    (hoff' : off' = ![256 * k, lo]) (inb : ∀ a, off a + S256x128.size a ≤ S2560x6912.size a)
    (inb' : ∀ a, off' a + S256x128.size a ≤ S2560x1728.size a) (ow : BitVec 32) (how : lo + ow.toNat = 32 * t) (how' : ow.toNat ≤ 96)
    (pay : S256x128.Idx → EReal)
    (hpay : pay = wdec wp wn (decode (View.ld (Val := Elt Ideal) (e' := .i8) X (Rect.unit (s := S2560x1728) off' S256x128.size inb')) ow))
    (y : S256x128.Idx) : pay y = wt X wp wn ((Rect.unit (s := S2560x6912) off S256x128.size inb).emb y) := by
  subst hpay hoff'
  refine tile_eq X wp wn k t off hoff inb ow how' _ (fun r l hr hl => ?_) y
  refine congrArg X (funext fun a => ?_)
  match a with
  | ⟨0, _⟩ => exact Fin.ext (by show 256 * k + 1 * r.val = 256 * k + r.val; omega)
  | ⟨1, _⟩ => exact Fin.ext (by show lo + 1 * (l.val / 4 + ow.toNat) = 32 * t + l.val / 4; omega)

/-- The same, for the last tiles, loaded from the last 64 lanes of codes, doubled. -/
theorem tile_piece_last (X : S2560x1728.Idx → BitVec 8) (wp wn : EReal) (k t lo : ℕ) (off off' : Fin 2 → ℕ) (hoff : off = ![256 * k, 128 * t])
    (hoff' : off' = ![256 * k, lo]) (inb : ∀ a, off a + S256x128.size a ≤ S2560x6912.size a)
    (inb' : ∀ a, off' a + S256x64.size a ≤ S2560x1728.size a) (ow : BitVec 32) (how : lo + ow.toNat = 32 * t) (how' : ow.toNat ≤ 32)
    (pay : S256x128.Idx → EReal)
    (hpay : pay = wdec wp wn (decode (concatenate S256x128 1
      [⟨S256x64, View.ld (Val := Elt Ideal) (e' := .i8) X (Rect.unit (s := S2560x1728) off' S256x64.size inb')⟩,
       ⟨S256x64, View.ld (Val := Elt Ideal) (e' := .i8) X (Rect.unit (s := S2560x1728) off' S256x64.size inb')⟩]
      Cert.DxIdeal.Facts₀.concatenates_S256x64_S256x64_S256x128_d1) ow))
    (y : S256x128.Idx) : pay y = wt X wp wn ((Rect.unit (s := S2560x6912) off S256x128.size inb).emb y) := by
  subst hpay hoff'
  refine tile_eq X wp wn k t off hoff inb ow (by omega) _ (fun r l hr hl => ?_) y
  have hb : l.val / 4 + ow.toNat < 64 := by omega
  rw [concatenate_pair_apply_left (t := S256x128) (s₁ := S256x64) (s₂ := S256x64) 1 _ _ _ (ix2 r ⟨l.val / 4 + ow.toNat, by omega⟩) rfl (ix2 r (⟨l.val / 4 + ow.toNat, hb⟩ : Fin 64))]
  · refine congrArg X (funext fun a => ?_)
    match a with
    | ⟨0, _⟩ => exact Fin.ext (by show 256 * k + 1 * r.val = 256 * k + r.val; omega)
    | ⟨1, _⟩ => exact Fin.ext (by show lo + 1 * (l.val / 4 + ow.toNat) = 32 * t + l.val / 4; omega)
  · intro b
    match b with
    | ⟨0, _⟩ => rfl
    | ⟨1, _⟩ => rfl

set_option maxHeartbeats 4000000 in
/-- One trip of the row loop stores tiles of `wt`. -/
theorem trip_pieces (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (k0_h1 : k0_cond1 i = 1#1) (v13 : Elt Ideal .f32) (v14 : Elt Ideal .f32) (X_arg4 : BufTy.Contents (Elt Ideal) arg4.view.ty) (k : Fin k0_t1_loop.trips) :
    View.PiecesOf (Val := Elt Ideal) (e := .bf16) (wt (arg4.view.read (Elt Ideal) X_arg4) v13 v14) (tripL_k0_t1 (F := Ideal) 𝒱 c bd i arg1 harg1 arg2 harg2 arg3 harg3 arg4 harg4 arg5 harg5 arg6 harg6 arg7 harg7 k0_h1 v13 v14 X_arg4 k) := by
  unfold tripL_k0_t1 trip_k0_t1
  dsimp only
  refine And.intro ?_ ?_
  · exact tile_piece_last (arg4.view.read (Elt Ideal) X_arg4) v13 v14 k.val 53 1664 _ _ (k0_off68_eq k) (k0_off66_eq k) (k0_off68_inb i k k0_h1) (k0_off66_inb i k k0_h1) 32#32 rfl (by decide) _ rfl
  refine And.intro ?_ ?_
  · exact tile_piece_last (arg4.view.read (Elt Ideal) X_arg4) v13 v14 k.val 52 1664 _ _ (k0_off67_eq k) (k0_off66_eq k) (k0_off67_inb i k k0_h1) (k0_off66_inb i k k0_h1) 0#32 rfl (by decide) _ rfl
  refine And.intro ?_ ?_
  · exact tile_piece (arg4.view.read (Elt Ideal) X_arg4) v13 v14 k.val 51 1536 _ _ (k0_off65_eq k) (k0_off61_eq k) (k0_off65_inb i k k0_h1) (k0_off61_inb i k k0_h1) 96#32 rfl (by decide) _ rfl
  refine And.intro ?_ ?_
  · exact tile_piece (arg4.view.read (Elt Ideal) X_arg4) v13 v14 k.val 50 1536 _ _ (k0_off64_eq k) (k0_off61_eq k) (k0_off64_inb i k k0_h1) (k0_off61_inb i k k0_h1) 64#32 rfl (by decide) _ rfl
  refine And.intro ?_ ?_
  · exact tile_piece (arg4.view.read (Elt Ideal) X_arg4) v13 v14 k.val 49 1536 _ _ (k0_off63_eq k) (k0_off61_eq k) (k0_off63_inb i k k0_h1) (k0_off61_inb i k k0_h1) 32#32 rfl (by decide) _ rfl
  refine And.intro ?_ ?_
  · exact tile_piece (arg4.view.read (Elt Ideal) X_arg4) v13 v14 k.val 48 1536 _ _ (k0_off62_eq k) (k0_off61_eq k) (k0_off62_inb i k k0_h1) (k0_off61_inb i k k0_h1) 0#32 rfl (by decide) _ rfl
  refine And.intro ?_ ?_
  · exact tile_piece (arg4.view.read (Elt Ideal) X_arg4) v13 v14 k.val 47 1408 _ _ (k0_off60_eq k) (k0_off56_eq k) (k0_off60_inb i k k0_h1) (k0_off56_inb i k k0_h1) 96#32 rfl (by decide) _ rfl
  refine And.intro ?_ ?_
  · exact tile_piece (arg4.view.read (Elt Ideal) X_arg4) v13 v14 k.val 46 1408 _ _ (k0_off59_eq k) (k0_off56_eq k) (k0_off59_inb i k k0_h1) (k0_off56_inb i k k0_h1) 64#32 rfl (by decide) _ rfl
  refine And.intro ?_ ?_
  · exact tile_piece (arg4.view.read (Elt Ideal) X_arg4) v13 v14 k.val 45 1408 _ _ (k0_off58_eq k) (k0_off56_eq k) (k0_off58_inb i k k0_h1) (k0_off56_inb i k k0_h1) 32#32 rfl (by decide) _ rfl
  refine And.intro ?_ ?_
  · exact tile_piece (arg4.view.read (Elt Ideal) X_arg4) v13 v14 k.val 44 1408 _ _ (k0_off57_eq k) (k0_off56_eq k) (k0_off57_inb i k k0_h1) (k0_off56_inb i k k0_h1) 0#32 rfl (by decide) _ rfl
  refine And.intro ?_ ?_
  · exact tile_piece (arg4.view.read (Elt Ideal) X_arg4) v13 v14 k.val 43 1280 _ _ (k0_off55_eq k) (k0_off51_eq k) (k0_off55_inb i k k0_h1) (k0_off51_inb i k k0_h1) 96#32 rfl (by decide) _ rfl
  refine And.intro ?_ ?_
  · exact tile_piece (arg4.view.read (Elt Ideal) X_arg4) v13 v14 k.val 42 1280 _ _ (k0_off54_eq k) (k0_off51_eq k) (k0_off54_inb i k k0_h1) (k0_off51_inb i k k0_h1) 64#32 rfl (by decide) _ rfl
  refine And.intro ?_ ?_
  · exact tile_piece (arg4.view.read (Elt Ideal) X_arg4) v13 v14 k.val 41 1280 _ _ (k0_off53_eq k) (k0_off51_eq k) (k0_off53_inb i k k0_h1) (k0_off51_inb i k k0_h1) 32#32 rfl (by decide) _ rfl
  refine And.intro ?_ ?_
  · exact tile_piece (arg4.view.read (Elt Ideal) X_arg4) v13 v14 k.val 40 1280 _ _ (k0_off52_eq k) (k0_off51_eq k) (k0_off52_inb i k k0_h1) (k0_off51_inb i k k0_h1) 0#32 rfl (by decide) _ rfl
  refine And.intro ?_ ?_
  · exact tile_piece (arg4.view.read (Elt Ideal) X_arg4) v13 v14 k.val 39 1152 _ _ (k0_off50_eq k) (k0_off46_eq k) (k0_off50_inb i k k0_h1) (k0_off46_inb i k k0_h1) 96#32 rfl (by decide) _ rfl
  refine And.intro ?_ ?_
  · exact tile_piece (arg4.view.read (Elt Ideal) X_arg4) v13 v14 k.val 38 1152 _ _ (k0_off49_eq k) (k0_off46_eq k) (k0_off49_inb i k k0_h1) (k0_off46_inb i k k0_h1) 64#32 rfl (by decide) _ rfl
  refine And.intro ?_ ?_
  · exact tile_piece (arg4.view.read (Elt Ideal) X_arg4) v13 v14 k.val 37 1152 _ _ (k0_off48_eq k) (k0_off46_eq k) (k0_off48_inb i k k0_h1) (k0_off46_inb i k k0_h1) 32#32 rfl (by decide) _ rfl
  refine And.intro ?_ ?_
  · exact tile_piece (arg4.view.read (Elt Ideal) X_arg4) v13 v14 k.val 36 1152 _ _ (k0_off47_eq k) (k0_off46_eq k) (k0_off47_inb i k k0_h1) (k0_off46_inb i k k0_h1) 0#32 rfl (by decide) _ rfl
  refine And.intro ?_ ?_
  · exact tile_piece (arg4.view.read (Elt Ideal) X_arg4) v13 v14 k.val 35 1024 _ _ (k0_off45_eq k) (k0_off41_eq k) (k0_off45_inb i k k0_h1) (k0_off41_inb i k k0_h1) 96#32 rfl (by decide) _ rfl
  refine And.intro ?_ ?_
  · exact tile_piece (arg4.view.read (Elt Ideal) X_arg4) v13 v14 k.val 34 1024 _ _ (k0_off44_eq k) (k0_off41_eq k) (k0_off44_inb i k k0_h1) (k0_off41_inb i k k0_h1) 64#32 rfl (by decide) _ rfl
  refine And.intro ?_ ?_
  · exact tile_piece (arg4.view.read (Elt Ideal) X_arg4) v13 v14 k.val 33 1024 _ _ (k0_off43_eq k) (k0_off41_eq k) (k0_off43_inb i k k0_h1) (k0_off41_inb i k k0_h1) 32#32 rfl (by decide) _ rfl
  refine And.intro ?_ ?_
  · exact tile_piece (arg4.view.read (Elt Ideal) X_arg4) v13 v14 k.val 32 1024 _ _ (k0_off42_eq k) (k0_off41_eq k) (k0_off42_inb i k k0_h1) (k0_off41_inb i k k0_h1) 0#32 rfl (by decide) _ rfl
  refine And.intro ?_ ?_
  · exact tile_piece (arg4.view.read (Elt Ideal) X_arg4) v13 v14 k.val 31 896 _ _ (k0_off40_eq k) (k0_off36_eq k) (k0_off40_inb i k k0_h1) (k0_off36_inb i k k0_h1) 96#32 rfl (by decide) _ rfl
  refine And.intro ?_ ?_
  · exact tile_piece (arg4.view.read (Elt Ideal) X_arg4) v13 v14 k.val 30 896 _ _ (k0_off39_eq k) (k0_off36_eq k) (k0_off39_inb i k k0_h1) (k0_off36_inb i k k0_h1) 64#32 rfl (by decide) _ rfl
  refine And.intro ?_ ?_
  · exact tile_piece (arg4.view.read (Elt Ideal) X_arg4) v13 v14 k.val 29 896 _ _ (k0_off38_eq k) (k0_off36_eq k) (k0_off38_inb i k k0_h1) (k0_off36_inb i k k0_h1) 32#32 rfl (by decide) _ rfl
  refine And.intro ?_ ?_
  · exact tile_piece (arg4.view.read (Elt Ideal) X_arg4) v13 v14 k.val 28 896 _ _ (k0_off37_eq k) (k0_off36_eq k) (k0_off37_inb i k k0_h1) (k0_off36_inb i k k0_h1) 0#32 rfl (by decide) _ rfl
  refine And.intro ?_ ?_
  · exact tile_piece (arg4.view.read (Elt Ideal) X_arg4) v13 v14 k.val 27 768 _ _ (k0_off35_eq k) (k0_off31_eq k) (k0_off35_inb i k k0_h1) (k0_off31_inb i k k0_h1) 96#32 rfl (by decide) _ rfl
  refine And.intro ?_ ?_
  · exact tile_piece (arg4.view.read (Elt Ideal) X_arg4) v13 v14 k.val 26 768 _ _ (k0_off34_eq k) (k0_off31_eq k) (k0_off34_inb i k k0_h1) (k0_off31_inb i k k0_h1) 64#32 rfl (by decide) _ rfl
  refine And.intro ?_ ?_
  · exact tile_piece (arg4.view.read (Elt Ideal) X_arg4) v13 v14 k.val 25 768 _ _ (k0_off33_eq k) (k0_off31_eq k) (k0_off33_inb i k k0_h1) (k0_off31_inb i k k0_h1) 32#32 rfl (by decide) _ rfl
  refine And.intro ?_ ?_
  · exact tile_piece (arg4.view.read (Elt Ideal) X_arg4) v13 v14 k.val 24 768 _ _ (k0_off32_eq k) (k0_off31_eq k) (k0_off32_inb i k k0_h1) (k0_off31_inb i k k0_h1) 0#32 rfl (by decide) _ rfl
  refine And.intro ?_ ?_
  · exact tile_piece (arg4.view.read (Elt Ideal) X_arg4) v13 v14 k.val 23 640 _ _ (k0_off30_eq k) (k0_off26_eq k) (k0_off30_inb i k k0_h1) (k0_off26_inb i k k0_h1) 96#32 rfl (by decide) _ rfl
  refine And.intro ?_ ?_
  · exact tile_piece (arg4.view.read (Elt Ideal) X_arg4) v13 v14 k.val 22 640 _ _ (k0_off29_eq k) (k0_off26_eq k) (k0_off29_inb i k k0_h1) (k0_off26_inb i k k0_h1) 64#32 rfl (by decide) _ rfl
  refine And.intro ?_ ?_
  · exact tile_piece (arg4.view.read (Elt Ideal) X_arg4) v13 v14 k.val 21 640 _ _ (k0_off28_eq k) (k0_off26_eq k) (k0_off28_inb i k k0_h1) (k0_off26_inb i k k0_h1) 32#32 rfl (by decide) _ rfl
  refine And.intro ?_ ?_
  · exact tile_piece (arg4.view.read (Elt Ideal) X_arg4) v13 v14 k.val 20 640 _ _ (k0_off27_eq k) (k0_off26_eq k) (k0_off27_inb i k k0_h1) (k0_off26_inb i k k0_h1) 0#32 rfl (by decide) _ rfl
  refine And.intro ?_ ?_
  · exact tile_piece (arg4.view.read (Elt Ideal) X_arg4) v13 v14 k.val 19 512 _ _ (k0_off25_eq k) (k0_off21_eq k) (k0_off25_inb i k k0_h1) (k0_off21_inb i k k0_h1) 96#32 rfl (by decide) _ rfl
  refine And.intro ?_ ?_
  · exact tile_piece (arg4.view.read (Elt Ideal) X_arg4) v13 v14 k.val 18 512 _ _ (k0_off24_eq k) (k0_off21_eq k) (k0_off24_inb i k k0_h1) (k0_off21_inb i k k0_h1) 64#32 rfl (by decide) _ rfl
  refine And.intro ?_ ?_
  · exact tile_piece (arg4.view.read (Elt Ideal) X_arg4) v13 v14 k.val 17 512 _ _ (k0_off23_eq k) (k0_off21_eq k) (k0_off23_inb i k k0_h1) (k0_off21_inb i k k0_h1) 32#32 rfl (by decide) _ rfl
  refine And.intro ?_ ?_
  · exact tile_piece (arg4.view.read (Elt Ideal) X_arg4) v13 v14 k.val 16 512 _ _ (k0_off22_eq k) (k0_off21_eq k) (k0_off22_inb i k k0_h1) (k0_off21_inb i k k0_h1) 0#32 rfl (by decide) _ rfl
  refine And.intro ?_ ?_
  · exact tile_piece (arg4.view.read (Elt Ideal) X_arg4) v13 v14 k.val 15 384 _ _ (k0_off20_eq k) (k0_off16_eq k) (k0_off20_inb i k k0_h1) (k0_off16_inb i k k0_h1) 96#32 rfl (by decide) _ rfl
  refine And.intro ?_ ?_
  · exact tile_piece (arg4.view.read (Elt Ideal) X_arg4) v13 v14 k.val 14 384 _ _ (k0_off19_eq k) (k0_off16_eq k) (k0_off19_inb i k k0_h1) (k0_off16_inb i k k0_h1) 64#32 rfl (by decide) _ rfl
  refine And.intro ?_ ?_
  · exact tile_piece (arg4.view.read (Elt Ideal) X_arg4) v13 v14 k.val 13 384 _ _ (k0_off18_eq k) (k0_off16_eq k) (k0_off18_inb i k k0_h1) (k0_off16_inb i k k0_h1) 32#32 rfl (by decide) _ rfl
  refine And.intro ?_ ?_
  · exact tile_piece (arg4.view.read (Elt Ideal) X_arg4) v13 v14 k.val 12 384 _ _ (k0_off17_eq k) (k0_off16_eq k) (k0_off17_inb i k k0_h1) (k0_off16_inb i k k0_h1) 0#32 rfl (by decide) _ rfl
  refine And.intro ?_ ?_
  · exact tile_piece (arg4.view.read (Elt Ideal) X_arg4) v13 v14 k.val 11 256 _ _ (k0_off15_eq k) (k0_off11_eq k) (k0_off15_inb i k k0_h1) (k0_off11_inb i k k0_h1) 96#32 rfl (by decide) _ rfl
  refine And.intro ?_ ?_
  · exact tile_piece (arg4.view.read (Elt Ideal) X_arg4) v13 v14 k.val 10 256 _ _ (k0_off14_eq k) (k0_off11_eq k) (k0_off14_inb i k k0_h1) (k0_off11_inb i k k0_h1) 64#32 rfl (by decide) _ rfl
  refine And.intro ?_ ?_
  · exact tile_piece (arg4.view.read (Elt Ideal) X_arg4) v13 v14 k.val 9 256 _ _ (k0_off13_eq k) (k0_off11_eq k) (k0_off13_inb i k k0_h1) (k0_off11_inb i k k0_h1) 32#32 rfl (by decide) _ rfl
  refine And.intro ?_ ?_
  · exact tile_piece (arg4.view.read (Elt Ideal) X_arg4) v13 v14 k.val 8 256 _ _ (k0_off12_eq k) (k0_off11_eq k) (k0_off12_inb i k k0_h1) (k0_off11_inb i k k0_h1) 0#32 rfl (by decide) _ rfl
  refine And.intro ?_ ?_
  · exact tile_piece (arg4.view.read (Elt Ideal) X_arg4) v13 v14 k.val 7 128 _ _ (k0_off10_eq k) (k0_off6_eq k) (k0_off10_inb i k k0_h1) (k0_off6_inb i k k0_h1) 96#32 rfl (by decide) _ rfl
  refine And.intro ?_ ?_
  · exact tile_piece (arg4.view.read (Elt Ideal) X_arg4) v13 v14 k.val 6 128 _ _ (k0_off9_eq k) (k0_off6_eq k) (k0_off9_inb i k k0_h1) (k0_off6_inb i k k0_h1) 64#32 rfl (by decide) _ rfl
  refine And.intro ?_ ?_
  · exact tile_piece (arg4.view.read (Elt Ideal) X_arg4) v13 v14 k.val 5 128 _ _ (k0_off8_eq k) (k0_off6_eq k) (k0_off8_inb i k k0_h1) (k0_off6_inb i k k0_h1) 32#32 rfl (by decide) _ rfl
  refine And.intro ?_ ?_
  · exact tile_piece (arg4.view.read (Elt Ideal) X_arg4) v13 v14 k.val 4 128 _ _ (k0_off7_eq k) (k0_off6_eq k) (k0_off7_inb i k k0_h1) (k0_off6_inb i k k0_h1) 0#32 rfl (by decide) _ rfl
  refine And.intro ?_ ?_
  · exact tile_piece (arg4.view.read (Elt Ideal) X_arg4) v13 v14 k.val 3 0 _ _ (k0_off5_eq k) (k0_off1_eq k) (k0_off5_inb i k k0_h1) (k0_off1_inb i k k0_h1) 96#32 rfl (by decide) _ rfl
  refine And.intro ?_ ?_
  · exact tile_piece (arg4.view.read (Elt Ideal) X_arg4) v13 v14 k.val 2 0 _ _ (k0_off4_eq k) (k0_off1_eq k) (k0_off4_inb i k k0_h1) (k0_off1_inb i k k0_h1) 64#32 rfl (by decide) _ rfl
  refine And.intro ?_ ?_
  · exact tile_piece (arg4.view.read (Elt Ideal) X_arg4) v13 v14 k.val 1 0 _ _ (k0_off3_eq k) (k0_off1_eq k) (k0_off3_inb i k k0_h1) (k0_off1_inb i k k0_h1) 32#32 rfl (by decide) _ rfl
  refine And.intro ?_ ?_
  · exact tile_piece (arg4.view.read (Elt Ideal) X_arg4) v13 v14 k.val 0 0 _ _ (k0_off2_eq k) (k0_off1_eq k) (k0_off2_inb i k k0_h1) (k0_off1_inb i k k0_h1) 0#32 rfl (by decide) _ rfl
  exact trivial

/-- So does every number of trips. -/
theorem pb_pieces (𝒱 : Variants) (c : Dev nD) (bd : Option 𝒱.V) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (k0_h1 : k0_cond1 i = 1#1) (v13 : Elt Ideal .f32) (v14 : Elt Ideal .f32) (X_arg4 : BufTy.Contents (Elt Ideal) arg4.view.ty) (n : ℕ) (hn : n ≤ k0_t1_loop.trips) :
    ∀ p ∈ pb_k0_t1 (F := Ideal) 𝒱 c bd i arg1 harg1 arg2 harg2 arg3 harg3 arg4 harg4 arg5 harg5 arg6 harg6 arg7 harg7 k0_h1 v13 v14 X_arg4 n, ∀ x : p.1.shape.Idx,
      p.2 x = (wt (arg4.view.read (Elt Ideal) X_arg4) v13 v14 : S2560x6912.Idx → Elt Ideal .bf16) (p.1.emb x) := by
  induction n with
  | zero => intro p hp; exact absurd hp List.not_mem_nil
  | succ n ih =>
    intro p hp
    rw [pb_k0_t1_succ (F := Ideal) 𝒱 c bd i arg1 harg1 arg2 harg2 arg3 harg3 arg4 harg4 arg5 harg5 arg6 harg6 arg7 harg7 k0_h1 v13 v14 X_arg4 ⟨n, hn⟩] at hp
    rcases List.mem_append.mp hp with h | h
    · exact (trip_pieces 𝒱 c bd i arg1 harg1 arg2 harg2 arg3 harg3 arg4 harg4 arg5 harg5 arg6 harg6 arg7 harg7 k0_h1 v13 v14 X_arg4 ⟨n, hn⟩).mem p h
    · exact ih (Nat.le_of_succ_le hn) p h

end Cert.DxIdeal.Val

end
-- ==== Proof.DxValue.lean ====
module

public import proofs.«01_k».proof.Proof.Gen.DxIdeal.Value
public import proofs.«01_k».proof.Proof.DxBlock
public import Idealize.ShloMosaic.Lib.MatmulPlain
public import Idealize.ShloMosaic.Lib.Pipeline.FrameTail
public import Idealize.ShloMosaic.Lib.StableHlo.Run

@[expose] public section

set_option maxRecDepth 16384

set_option pp.maxSteps 3000

noncomputable section

/-!
The value of the `dx` kernel: the array it writes, in closed form in the arrays it reads.
-/

namespace Cert.DxIdeal.Val

open Cert.DxIdeal Cert.DxIdeal.Gen Cert.Region
open Idealize.ShloMosaic Idealize.ShloMosaic.ValueIdx Idealize.ShloMosaic.TcCoe Idealize.ShloMosaic.StableHlo

/-- The only element of a one-by-one scalar, however its index is spelled. -/
theorem idx11 (y : S1x1.Idx) : y = ix2 0 0 := by
  funext a; apply Fin.ext
  match a with
  | ⟨0, _⟩ => have h : (y 0).val < 1 := (y 0).isLt; show (y 0).val = 0; omega
  | ⟨1, _⟩ => have h : (y 1).val < 1 := (y 1).isLt; show (y 1).val = 0; omega

/-- Every store of the first point's decode loop is a part of the decoded weights of the codes it reads. -/
theorem canon_pb (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (hc0 : k0_cond1 i = 1#1) (x1 x2 : Vec Ideal S1x1 .f32) (x3 : Vec Ideal S2560x1728 .i8)
    (v1 v2 : Elt Ideal .f32) (e1 : v1 = x1 (ix2 0 0)) (e2 : v2 = x2 (ix2 0 0)) (n : ℕ) (hn : n = k0_t1_loop.trips)
    (hcov : ∀ y, ∃ p ∈ pb_k0_t1 (F := Ideal) Variants.none c none i arg1 harg1 arg2 harg2 arg3 harg3 arg4 harg4 arg5 harg5 arg6 harg6 arg7 harg7 hc0 v1 v2 (harg4.unread x3) n, y ∈ p.1.set) :
    View.canon (pb_k0_t1 (F := Ideal) Variants.none c none i arg1 harg1 arg2 harg2 arg3 harg3 arg4 harg4 arg5 harg5 arg6 harg6 arg7 harg7 hc0 v1 v2 (harg4.unread x3) n)
      = (wt x3 (x1 (ix2 0 0)) (x2 (ix2 0 0)) : S2560x6912.Idx → Elt Ideal .bf16) := by
  subst e1 e2
  funext y
  refine View.canon_apply_of_pieces (wt x3 (x1 (ix2 0 0)) (x2 (ix2 0 0)) : S2560x6912.Idx → Elt Ideal .bf16) _ ?_ y (hcov y)
  intro p hp x
  have h := pb_pieces Variants.none c none i arg1 harg1 arg2 harg2 arg3 harg3 arg4 harg4 arg5 harg5 arg6 harg6 arg7 harg7 hc0 (x1 (ix2 0 0)) (x2 (ix2 0 0)) (harg4.unread x3) n (le_of_eq hn) p hp x
  rw [harg4.read_unread] at h
  exact h

/-- The first point leaves the decoded weights in the scratch. -/
theorem sout_A (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (hc0 : cond0_0 i) (x0 : Vec Ideal S1x1 .f32) (x1 : Vec Ideal S1x1 .f32) (x2 : Vec Ideal S1x1 .f32) (x3 : Vec Ideal S2560x1728 .i8) (x4 : Vec Ideal S512x6912 .fp8e5m2) :
    sout0_A_0 (F := Ideal) c i arg1 harg1 arg2 harg2 arg3 harg3 arg4 harg4 arg5 harg5 arg6 harg6 arg7 harg7 hc0 x0 x1 x2 x3 x4 = (wt x3 (x1 (ix2 0 0)) (x2 (ix2 0 0)) : S2560x6912.Idx → Elt Ideal .bf16) := by
  unfold sout0_A_0
  have hcov := scover0_A_0 (F := Ideal) c i arg1 harg1 arg2 harg2 arg3 harg3 arg4 harg4 arg5 harg5 arg6 harg6 arg7 harg7 hc0 x0 x1 x2 x3 x4
  rw [View.read_writes_eq_canon _ _ _ hcov]
  unfold kernelRun0_A at hcov ⊢
  dsimp only at hcov ⊢
  sl_unfold_words
  exact canon_pb c i arg1 harg1 arg2 harg2 arg3 harg3 arg4 harg4 arg5 harg5 arg6 harg6 arg7 harg7 hc0 x1 x2 x3 _ _ (by rw [View.readAt_eq_ld, harg2.read_unread]; exact congrArg x1 (idx11 _))
    (by rw [View.readAt_eq_ld, harg3.read_unread]; exact congrArg x2 (idx11 _)) _ rfl hcov

/-- The first point's output block: the product of the block of `dy` with the decoded weights, scaled. -/
theorem out_A (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (hc0 : cond0_0 i) (x0 : Vec Ideal S1x1 .f32) (x1 : Vec Ideal S1x1 .f32) (x2 : Vec Ideal S1x1 .f32) (x3 : Vec Ideal S2560x1728 .i8) (x4 : Vec Ideal S512x6912 .fp8e5m2) :
    out0_A_5 (F := Ideal) c i arg1 harg1 arg2 harg2 arg3 harg3 arg4 harg4 arg5 harg5 arg6 harg6 arg7 harg7 hc0 x0 x1 x2 x3 x4 = k0_pay2 (F := Ideal) x4 (wt x3 (x1 (ix2 0 0)) (x2 (ix2 0 0))) (x0 (ix2 0 0)) := by
  unfold out0_A_5
  have hcov := scover0_A_0 (F := Ideal) c i arg1 harg1 arg2 harg2 arg3 harg3 arg4 harg4 arg5 harg5 arg6 harg6 arg7 harg7 hc0 x0 x1 x2 x3 x4
  rw [View.read_writes_eq_canon _ _ _ (cover0_A_5 (F := Ideal) c i arg1 harg1 arg2 harg2 arg3 harg3 arg4 harg4 arg5 harg5 arg6 harg6 arg7 harg7 hc0 x0 x1 x2 x3 x4)]
  unfold kernelRun0_A at hcov ⊢
  dsimp only at hcov ⊢
  sl_unfold_words
  rw [View.canon_unit_zero (by funext a; fin_cases a <;> rfl), View.readAt_eq_ld, harg5.read_unread, View.readAt_eq_ld, View.readAt_eq_ld, View.readAt_eq_ld, harg1.read_unread]
  rw [View.readCov_eq_canon', canon_pb c i arg1 harg1 arg2 harg2 arg3 harg3 arg4 harg4 arg5 harg5 arg6 harg6 arg7 harg7 hc0 x1 x2 x3 _ _ ?_ ?_ _ rfl ?_]
  · have e := View.ld_unit_zero (Val := Elt Ideal) (S := S2560x6912) (e := .bf16) (off := ![0, 0]) (by funext a; fin_cases a <;> rfl) inb_S2560x6912_S2560x6912_0_0 (wt x3 (x1 (ix2 0 0)) (x2 (ix2 0 0)))
    have e' := congrArg x0 (idx11 ((Rect.unit ![0, 0] S1x1.size inb_S1x1_S1x1_0_0).emb (Shape.Idx.first (by decide))))
    rw [View.ld_unit_zero (by funext a; fin_cases a <;> rfl)]
    exact congrArg₂ (k0_pay2 (F := Ideal) x4) e e'
  · rw [harg2.read_unread]; exact congrArg x1 (idx11 _)
  · rw [harg3.read_unread]; exact congrArg x2 (idx11 _)
  · exact hcov

/-- A later point's output block: the product of the block of `dy` with the weights the scratch holds, scaled. -/
theorem out_B (c : Dev nD) (i : grid0.Coords) (arg1 : Memref sig .tc .smem S1x1 .f32) (harg1 : arg1.IsWhole) (arg2 : Memref sig .tc .smem S1x1 .f32) (harg2 : arg2.IsWhole) (arg3 : Memref sig .tc .smem S1x1 .f32) (harg3 : arg3.IsWhole) (arg4 : Memref sig .tc .vmem S2560x1728 .i8) (harg4 : arg4.IsWhole) (arg5 : Memref sig .tc .vmem S512x6912 .fp8e5m2) (harg5 : arg5.IsWhole) (arg6 : Memref sig .tc .vmem S512x2560 .bf16) (harg6 : arg6.IsWhole) (arg7 : Memref sig .tc .vmem S2560x6912 .bf16) (harg7 : arg7.IsWhole) (hc0 : ¬ cond0_0 i) (x0 : Vec Ideal S1x1 .f32) (x1 : Vec Ideal S1x1 .f32) (x2 : Vec Ideal S1x1 .f32) (x3 : Vec Ideal S2560x1728 .i8) (x4 : Vec Ideal S512x6912 .fp8e5m2) (xs0 : Vec Ideal S2560x6912 .bf16) :
    out0_B_5 (F := Ideal) c i arg1 harg1 arg2 harg2 arg3 harg3 arg4 harg4 arg5 harg5 arg6 harg6 arg7 harg7 hc0 x0 x1 x2 x3 x4 xs0 = k0_pay2 (F := Ideal) x4 xs0 (x0 (ix2 0 0)) := by
  unfold out0_B_5
  rw [View.read_writes_eq_canon _ _ _ (cover0_B_5 (F := Ideal) c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero (by funext a; fin_cases a <;> rfl), View.readAt_eq_ld, harg5.read_unread, View.readAt_eq_ld, harg7.read_unread, View.readAt_eq_ld, harg1.read_unread]
  rw [View.ld_unit_zero (by funext a; fin_cases a <;> rfl), View.ld_unit_zero (by funext a; fin_cases a <;> rfl)]
  rw [show View.ld x0 (Rect.unit ![0, 0] S1x1.size inb_S1x1_S1x1_0_0) (Shape.Idx.first _) = x0 (ix2 0 0) from congrArg x0 (idx11 _)]

/-- The output block at an element: a row of `dy` against a row of the weights, times the scale. -/
theorem pay2_apply (x4 : Vec Ideal S512x6912 .fp8e5m2) (w : Vec Ideal S2560x6912 .bf16) (s : Elt Ideal .f32) (r : Fin 512) (q : Fin 2560) :
    k0_pay2 (F := Ideal) x4 w s (ix2 r q) = ((∑ f : Fin 6912, (x4 (ix2 r f) : EReal) * w (ix2 q f)) * s : EReal) := by
  unfold k0_pay2
  rw [shapeCast_self]
  show (FloatOps.matmul (F := Ideal) (DotDims.transposedRhs 512 6912 2560) none _ w _ (ix2 r q) : EReal) * s = _
  rw [Ideal.matmul_transposedRhs_apply]
  show ((Ideal.ofBits .f32 0x00000000#32 + ∑ f : Fin 6912, (x4 (ix2 r f) : EReal) * w (ix2 q f)) * s : EReal) = _
  rw [Ideal.ofBits_zero_f32, zero_add]

variable (m : (ℓ : Loc nD τ sig) → Buf (Elt Ideal) ℓ) (ρ : Dev nD → PrngReg)

/-- The scale, as the kernel finds it in its one-by-one array. -/
theorem V_scale (c : Dev nD) (y : S1x1.Idx) : V m c main_v2 y = m ((c : Thread nD τ).loc main_arg2) ix0 := by
  have h : V m c main_v2 = shapeCast S1x1 (m ((c : Thread nD τ).loc main_arg2)) shapeCasts_S_S1x1 := by
    show StableHlo.after hostOps0 _ (Proc.devRef .tc main_v2) = _
    after_results
    rfl
  rw [h]
  exact congrArg (m ((c : Thread nD τ).loc main_arg2)) (funext fun a => a.elim0)

/-- The positive weight likewise, -/
theorem V_wp (c : Dev nD) (y : S1x1.Idx) : V m c main_v3 y = m ((c : Thread nD τ).loc main_arg4) ix0 := by
  have h : V m c main_v3 = shapeCast S1x1 (m ((c : Thread nD τ).loc main_arg4)) shapeCasts_S_S1x1 := by
    show StableHlo.after hostOps0 _ (Proc.devRef .tc main_v3) = _
    after_results
    rfl
  rw [h]
  exact congrArg (m ((c : Thread nD τ).loc main_arg4)) (funext fun a => a.elim0)

/-- and the negative one. -/
theorem V_wn (c : Dev nD) (y : S1x1.Idx) : V m c main_v4 y = m ((c : Thread nD τ).loc main_arg5) ix0 := by
  have h : V m c main_v4 = shapeCast S1x1 (m ((c : Thread nD τ).loc main_arg5)) shapeCasts_S_S1x1 := by
    show StableHlo.after hostOps0 _ (Proc.devRef .tc main_v4) = _
    after_results
    rfl
  rw [h]
  exact congrArg (m ((c : Thread nD τ).loc main_arg5)) (funext fun a => a.elim0)

/-- The codes of `dy`, as the kernel finds them: the batch and the sequence flattened. -/
theorem V_dy (c : Dev nD) : V m c main_v1 = shapeCast S12288x6912 (m ((c : Thread nD τ).loc main_arg1)) shapeCasts_S24x512x6912_S12288x6912 := by
  show StableHlo.after hostOps0 _ (Proc.devRef .tc main_v1) = _
  after_results
  rfl

/-- The weights the region codes of core `c` name. -/
abbrev W (c : Dev nD) : S2560x6912.Idx → EReal :=
  wt (m ((c : Thread nD τ).loc main_arg3)) (m ((c : Thread nD τ).loc main_arg4) ix0) (m ((c : Thread nD τ).loc main_arg5) ix0)

/-- The codes of `dy` as numbers, the batch and the sequence flattened. -/
abbrev dyv (c : Dev nD) : S12288x6912.Idx → EReal := V m c main_v1

/-- The scale. -/
abbrev sc (c : Dev nD) : EReal := m ((c : Thread nD τ).loc main_arg2) ix0

theorem blk0 (c : Dev nD) (t : Fin cfg0.N) (y : S1x1.Idx) : (iblk m c 0 t : Vec Ideal S1x1 .f32) y = m ((c : Thread nD τ).loc main_arg2) ix0 := V_scale m c _
theorem blk1 (c : Dev nD) (t : Fin cfg0.N) (y : S1x1.Idx) : (iblk m c 1 t : Vec Ideal S1x1 .f32) y = m ((c : Thread nD τ).loc main_arg4) ix0 := V_wp m c _
theorem blk2 (c : Dev nD) (t : Fin cfg0.N) (y : S1x1.Idx) : (iblk m c 2 t : Vec Ideal S1x1 .f32) y = m ((c : Thread nD τ).loc main_arg5) ix0 := V_wn m c _

/-- The window of the codes is the whole array at every point. -/
theorem blk3 (c : Dev nD) (t : Fin cfg0.N) : (iblk m c 3 t : Vec Ideal S2560x1728 .i8) = m ((c : Thread nD τ).loc main_arg3) := by
  funext y
  have e : ∀ t : Fin grid0.N, win0_3.index t (0 : Fin 2) = 0 ∧ win0_3.index t (1 : Fin 2) = 0 := by decide +kernel
  have h : ((cfg0.win 3).blk t).view.emb y = y := by
    funext a; apply Fin.ext
    match a with
    | ⟨0, _⟩ => show win0_3.index t (0 : Fin 2) * 2560 + 1 * (y 0).val = (y 0).val; rw [(e t).1]; omega
    | ⟨1, _⟩ => show win0_3.index t (1 : Fin 2) * 1728 + 1 * (y 1).val = (y 1).val; rw [(e t).2]; omega
  show V m c main_arg3 (((cfg0.win 3).blk t).view.emb y) = _
  rw [h, V_main_arg3]

/-- The window of `dy` at point `t` is rows `512 t` to `512 t + 511`. -/
theorem blk4 (c : Dev nD) (t : Fin cfg0.N) (r : Fin 512) (f : Fin 6912) (h24 : t.val < 24) :
    (iblk m c 4 t : Vec Ideal S512x6912 .fp8e5m2) (ix2 r f) = V m c main_v1 (ix2 (⟨512 * t.val + r.val, by omega⟩ : Fin 12288) f) := by
  have e : ∀ t : Fin grid0.N, win0_4.index t (0 : Fin 2) = t.val ∧ win0_4.index t (1 : Fin 2) = 0 := by decide +kernel
  have h : ((cfg0.win 4).blk t).view.emb (ix2 r f) = ix2 (⟨512 * t.val + r.val, by omega⟩ : Fin 12288) f := by
    funext a; apply Fin.ext
    match a with
    | ⟨0, _⟩ => show win0_4.index t (0 : Fin 2) * 512 + 1 * r.val = 512 * t.val + r.val; rw [(e t).1]; omega
    | ⟨1, _⟩ => show win0_4.index t (1 : Fin 2) * 6912 + 1 * f.val = f.val; rw [(e t).2]; omega
  show V m c main_v1 (((cfg0.win 4).blk t).view.emb (ix2 r f)) = _
  rw [h]

/-- After every point: the output block is that point's rows against the decoded weights, and the scratch holds the weights. -/
theorem outs (c : Dev nD) : ∀ (n : ℕ) (hn : n < cfg0.N),
    outsAt0 m c n hn = (k0_pay2 (F := Ideal) (iblk m c 4 ⟨n, hn⟩) (W m c) (m ((c : Thread nD τ).loc main_arg2) ix0), W m c) := by
  intro n
  induction n with
  | zero =>
    intro hn
    have h := outsAt0_A m c ⟨0, hn⟩ (Nat.zero_mod _)
    rw [h, sout_A, out_A, blk0, blk1, blk2, blk3]
  | succ n ih =>
    intro hn
    have hN := lt_of_lt_of_eq hn (show cfg0.N = 24 from N_0)
    have h := outsAt0_B m c ⟨n + 1, hn⟩ (by show ¬ (n + 1) % 24 = 0; omega)
    rw [h, out_B, blk0]
    unfold sout0_B_0
    simp only [Nat.add_sub_cancel, ih]

/-- The array the `dx` kernel writes: row `t`, column `d` is row `t` of `dy` against row `d` of the weights, times the scale. -/
theorem G5_apply (c : Dev nD) (t : Fin 12288) (d : Fin 2560) :
    Value.G5 m c (ix2 t d) = ((∑ f : Fin 6912, dyv m c (ix2 t f) * W m c (ix2 d f)) * sc m c : EReal) := by
  have hp : Value.pt5Of (ix2 t d) = t.val / 512 := by
    show 1 * (t.val / 512 - 0) + 1 * (d.val / 2560 - 0) = t.val / 512
    omega
  have hl : Value.loc5Of (ix2 t d) = ix2 (⟨t.val % 512, Nat.mod_lt _ (by decide)⟩ : Fin 512) d := by
    funext a; apply Fin.ext
    match a with
    | ⟨0, _⟩ => rfl
    | ⟨1, _⟩ => show d.val % 2560 = d.val; omega
  have hlt : Value.pt5Of (ix2 t d) < cfg0.N := by rw [hp]; exact lt_of_lt_of_eq (by omega) (show cfg0.N = 24 from N_0).symm
  unfold Value.G5
  rw [dif_pos hlt, ← Value.outsAt0_sweep m c _ hlt, outs, hl]
  dsimp only
  rw [pay2_apply]
  have hlt' : t.val / 512 < cfg0.N := hp ▸ hlt
  have e : ∀ f : Fin 6912, (iblk m c 4 ⟨Value.pt5Of (ix2 t d), hlt⟩ : Vec Ideal S512x6912 .fp8e5m2) (ix2 (⟨t.val % 512, Nat.mod_lt _ (by decide)⟩ : Fin 512) f)
      = V m c main_v1 (ix2 t f) := fun f => by
    rw [show (⟨Value.pt5Of (ix2 t d), hlt⟩ : Fin cfg0.N) = ⟨t.val / 512, hlt'⟩ from Fin.ext hp, blk4 m c _ _ _ (by show t.val / 512 < 24; omega)]
    congr 2
    apply Fin.ext
    show 512 * (t.val / 512) + t.val % 512 = t.val
    omega
  refine congrArg (· * _) (Finset.sum_congr rfl fun f _ => ?_)
  rw [e f]

end Cert.DxIdeal.Val

end
-- ==== Proof.RefField.lean ====
/- The reference's unpacking of the region codes: four two-bit fields a byte, on a trailing axis of length 4,
   each field `fld` (Decode.lean) of its byte. -/
module

public import proofs.«01_k».proof.Proof.Decode
public import Idealize.ShloMosaic.Lib.KernelVsHost
public import Idealize.ShloMosaic.Lib.IdealHost
public import Idealize.ShloMosaic.Lib.Pipeline.Value

@[expose] public section

set_option maxRecDepth 16384

noncomputable section

namespace Cert.Region

open Idealize.ShloMosaic Idealize.ShloMosaic.ValueIdx

/-- The region codes' shape, -/
abbrev R2 : Shape := ⟨2, ![2560, 1728]⟩
/-- with a trailing unit axis, -/
abbrev R21 : Shape := ⟨3, ![2560, 1728, 1]⟩
/-- and with its four fields on a trailing axis. -/
abbrev R24 : Shape := ⟨3, ![2560, 1728, 4]⟩
/-- Four shift amounts, -/
abbrev Q4 : Shape := ⟨1, ![4]⟩
/-- the same along the last of three axes. -/
abbrev Q114 : Shape := ⟨3, ![1, 1, 4]⟩
/-- The shape of a scalar. -/
abbrev Q0 : Shape := ⟨0, ![]⟩

/-- The reference's field tensor: every byte shifted right by 0, 2, 4 and 6 bits, and its two low bits kept. -/
def fieldsOf (X : IVec R2 8) : IVec R24 32 :=
  andi (Host.shrui
      (broadcastInDim R24 ![0, 1, 2] (by decide) (broadcastInDim R21 ![0, 1] (by decide) (extui 32 X (by decide))))
      (broadcastInDim R24 ![0, 1, 2] (by decide) (broadcastInDim Q114 ![2] (by decide)
        (muli (broadcastInDim Q4 ![] (by decide) (constantI Q0 32 2#32)) (iotaInDim Q4 32 0)))))
    (broadcastInDim R24 ![] (by decide) (constantI Q0 32 3#32))

/-- A byte's field, shifted and masked at 32 bits, is its field at 8 bits. -/
theorem fld_wide : ∀ b : BitVec 8, ∀ k : Fin 4,
    (b.setWidth 32 >>> (2 * k.val)) &&& 3#32 = fld b k.val := by decide +kernel

theorem and_shr_apply (A B C : IVec R24 32) (i : R24.Idx) :
    andi (shrui A B) C i = IntOp.andi (IntOp.shrui .vector (A i) (B i)) (C i) := rfl

/-- Field `k` of byte `(d, j)`. -/
theorem fieldsOf_apply (X : IVec R2 8) (d : Fin 2560) (j : Fin 1728) (k : Fin 4) :
    fieldsOf X (ix3 d j k) = fld (X (ix2 d j)) k.val := by
  unfold fieldsOf
  rw [hostShrui_eq_shrui]
  rw [and_shr_apply]
  rw [broadcastInDim_apply _ _ _ (ix3 d j k) (ix3 d j 0 : R21.Idx) (by intro a; fin_cases a <;> rfl),
    broadcastInDim_apply _ _ _ (ix3 d j 0 : R21.Idx) (ix2 d j : R2.Idx) (by intro a; fin_cases a <;> rfl),
    broadcastInDim_apply (s := Q114) _ _ _ (ix3 d j k) (ix3 0 0 k : Q114.Idx) (by intro a; fin_cases a <;> rfl),
    broadcastInDim_apply (s := Q4) _ _ _ (ix3 0 0 k : Q114.Idx) (ix1 k : Q4.Idx) (by intro a; fin_cases a <;> rfl),
    broadcastInDim_scalar_apply]
  show IntOp.andi (IntOp.shrui .vector ((X (ix2 d j)).setWidth 32)
    (IntOp.muli (broadcastInDim Q4 ![] _ (constantI Q0 32 2#32) (ix1 k)) (BitVec.ofNat 32 k.val))) 3#32 = _
  rw [broadcastInDim_scalar_apply]
  show IntOp.andi (IntOp.shrui .vector ((X (ix2 d j)).setWidth 32) (IntOp.muli 2#32 (BitVec.ofNat 32 k.val))) 3#32 = _
  have hk : IntOp.muli 2#32 (BitVec.ofNat 32 k.val) = BitVec.ofNat 32 (2 * k.val) := by
    revert k; decide +kernel
  have ht : (BitVec.ofNat 32 (2 * k.val)).toNat = 2 * k.val := by rw [BitVec.toNat_ofNat]; omega
  rw [hk]
  unfold IntOp.shrui
  rw [if_pos (by rw [ht]; omega), BitVec.ushiftRight_eq', ht]
  exact fld_wide _ k

end Cert.Region

end
-- ==== Proof.RefDxValue.lean ====
/- What the plain reference for `dx` leaves in its result, element by element: the product of the gradient codes with the
   ternary weights of the region fields, contracted over the bytes and their fields, times the scale. -/
module

public import proofs.«01_k».proof.Proof.Gen.RefDxIdeal.Frame
public import proofs.«01_k».proof.Proof.RefField
public import Idealize.ShloMosaic.Lib.TwoAxisContraction
public import Idealize.ShloMosaic.Lib.Pipeline.ValueKit.Geometry
public import Idealize.ShloMosaic.Lib.Pointwise.Reshape
public import Idealize.ShloMosaic.Lib.StableHlo.Run

@[expose] public section

set_option maxRecDepth 16384

noncomputable section

namespace Cert.RefDxIdeal.Val

open Idealize.ShloMosaic hiding ix0 ix1 ix2 ix3 ix4
open Idealize.ShloMosaic.TcCoe Idealize.ShloMosaic.ValueIdx Idealize.ShloMosaic.StableHlo
open Idealize.SL.Sem
open Cert.RefDxIdeal Cert.RefDxIdeal.Gen Cert.Region

variable (m : (ℓ : Loc nD τ sig) → Buf (Elt Ideal) ℓ) (ρ : Dev nD → PrngReg)

/-- The one-call cast's output array after its run is the codes, each read as a number. -/
theorem arr1 (c : Dev nD) : (dats m 0 c).arrAt 1 cfg0.N = (extf .bf16 (m ((c : Thread nD τ).loc main_arg1)) bitsLt_fp8e5m2_bf16 : FVec Ideal S24x512x6912 .bf16) := by
  refine (dats m 0 c).arrAt_eq_of_after_last 1 ⟨0, by decide⟩ ?_ _ (fun j => ?_)
  · decide +kernel
  · show (dats m 0 c).after 1 _ j = _
    rw [after0_1]
    unfold out0_1
    rw [View.canon_unit_zero (by funext a; fin_cases a <;> rfl), View.ld_unit_zero (by funext a; fin_cases a <;> rfl)]
    unfold k0_pay1 iblk
    show V m c main_arg1 _ = m _ _
    rw [V_main_arg1]
    congr 1
    funext a
    have he : (((cfg0.win 0).blk ⟨0, by decide⟩).view.emb j a : ℕ) = 0 * S24x512x6912.size a + 1 * (j a).val := rfl
    exact Fin.ext (he.trans (by rw [Nat.zero_mul, Nat.zero_add, Nat.one_mul]; rfl))

/-- The host lines after the cast, as one expression of the buffers they read. -/
def tailOf (v16 : FVec Ideal S24x512x6912 .bf16) (p n : IVec S2560x1728x4 1) (s wp wn : FVec Ideal S_ .f32) : FVec Ideal S12288x2560 .bf16 :=
  shapeCast S12288x2560
    (truncf .bf16 (mulf
      (Host.dotGeneral dot_S24x512x1728x4_S2560x1728x4_S24x512x2560_23_12_01_0_n_n none
        (shapeCast S24x512x1728x4 v16 shapeCasts_S24x512x6912_S24x512x1728x4)
        (select p (broadcastInDim S2560x1728x4 ![] bcast_S_S2560x1728x4 (truncf .bf16 wp bitsLt_bf16_f32))
          (select n (broadcastInDim S2560x1728x4 ![] bcast_S_S2560x1728x4 (truncf .bf16 (Host.negf wn) bitsLt_bf16_f32))
            (broadcastInDim S2560x1728x4 ![] bcast_S_S2560x1728x4 (constant S_ .bf16 0x0000#16)))))
      (broadcastInDim S24x512x2560 ![] bcast_S_S24x512x2560 s)) bitsLt_bf16_f32) shapeCasts_S24x512x2560_S12288x2560

theorem tail_eq (U : Valuation τ sig (Elt Ideal)) :
    StableHlo.after (List.flatten [hostOps1, hostOps1_1, hostOps1_2, hostOps1_3]) U (Proc.devRef .tc main_v27)
      = tailOf (U (Proc.devRef .tc main_v16)) (U (Proc.devRef .tc main_v13)) (U (Proc.devRef .tc main_v15))
          (U (Proc.devRef .tc main_arg2)) (U (Proc.devRef .tc main_arg4)) (U (Proc.devRef .tc main_arg5)) := by
  simp only [hostOps1, hostOps1_1, hostOps1_2, hostOps1_3, List.flatten_cons, List.flatten_nil, List.append_nil, List.cons_append, List.nil_append]
  after_results
  rfl

theorem V_v13 (c : Dev nD) : V m c main_v13 = cmpi .eq (fieldsOf (m ((c : Thread nD τ).loc main_arg3))) (broadcastInDim S2560x1728x4 ![] bcast_S_S2560x1728x4 (constantI S_ 32 1#32)) := by
  show StableHlo.after hostOps0 _ (Proc.devRef .tc main_v13) = _
  after_results
  rfl

theorem V_v15 (c : Dev nD) : V m c main_v15 = cmpi .eq (fieldsOf (m ((c : Thread nD τ).loc main_arg3))) (broadcastInDim S2560x1728x4 ![] bcast_S_S2560x1728x4 (constantI S_ 32 2#32)) := by
  show StableHlo.after hostOps0 _ (Proc.devRef .tc main_v15) = _
  after_results
  rfl

/-- The reference's result, as an expression of its arguments. -/
def result (c : Dev nD) : FVec Ideal S12288x2560 .bf16 :=
  tailOf (extf .bf16 (m ((c : Thread nD τ).loc main_arg1)) bitsLt_fp8e5m2_bf16)
    (cmpi .eq (fieldsOf (m ((c : Thread nD τ).loc main_arg3))) (broadcastInDim S2560x1728x4 ![] bcast_S_S2560x1728x4 (constantI S_ 32 1#32)))
    (cmpi .eq (fieldsOf (m ((c : Thread nD τ).loc main_arg3))) (broadcastInDim S2560x1728x4 ![] bcast_S_S2560x1728x4 (constantI S_ 32 2#32)))
    (m ((c : Thread nD τ).loc main_arg2)) (m ((c : Thread nD τ).loc main_arg4)) (m ((c : Thread nD τ).loc main_arg5))

theorem congrArgs {v16 v16' : FVec Ideal S24x512x6912 .bf16} {p p' n n' : IVec S2560x1728x4 1} {s s' wp wp' wn wn' : FVec Ideal S_ .f32}
    (h1 : v16 = v16') (h2 : p = p') (h3 : n = n') (h4 : s = s') (h5 : wp = wp') (h6 : wn = wn') :
    tailOf v16 p n s wp wn = tailOf v16' p' n' s' wp' wn' := by
  subst h1 h2 h3 h4 h5 h6; rfl

theorem after_v27 (c : Dev nD) :
    Pipeline.afterTail₀ cfgs (dats m) 0 (V0 m) [hostOps1, hostOps1_1, hostOps1_2, hostOps1_3] c main_v27 = result m c := by
  unfold Pipeline.afterTail₀
  rw [tail_eq]
  unfold result
  refine congrArgs ?_ ?_ ?_ ?_ ?_ ?_
  · exact (Pipeline.withArrays_arr spec0 launch0.win.arr_inj c (V0 m c) _ 1).trans (arr1 m c)
  · exact (Pipeline.withArrays_of_ne _ c (V0 m c) _ main_v13 (by exact (by decide : ∀ w, Pipeline.arrRef spec0 w ≠ main_v13))).trans (V_v13 m c)
  · exact (Pipeline.withArrays_of_ne _ c (V0 m c) _ main_v15 (by exact (by decide : ∀ w, Pipeline.arrRef spec0 w ≠ main_v15))).trans (V_v15 m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)

/-- The reference's run: its result buffer holds `result`, and its arguments are unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1.rest_eq c main_v27 (Pipeline.mem_restRefs_of main_v27 (by decide) (by decide))).trans (after_v27 m c), h.2 c⟩)
    (θ_run_and (run_main m ρ) (unchanged m ρ))

/-- The weight of a region field: `wp` for 1, `-wn` for 2, zero for any other. -/
def wsel (wp wn : EReal) (f : BitVec 32) : EReal := if f = 1#32 then wp else if f = 2#32 then -wn else 0

theorem select_cmpi (a b : BitVec 32) (u v : EReal) : Scalar.select (IntOp.cmpi .eq a b) u v = if a = b then u else v := by
  unfold Scalar.select IntOp.cmpi
  by_cases h : a = b
  · simp [h]
  · have h' : (a == b) = false := by simpa using h
    simp [h, h']

/-- A product contracted over bytes and fields, read as a sum over both. -/
theorem dot_apply (l : FVec Ideal S24x512x1728x4 .bf16) (r : FVec Ideal S2560x1728x4 .bf16) (b : Fin 24) (s : Fin 512) (d : Fin 2560) :
    (Host.dotGeneral dot_S24x512x1728x4_S2560x1728x4_S24x512x2560_23_12_01_0_n_n none l r : FVec Ideal S24x512x2560 .f32) (ix3 b s d)
      = (∑ j : Fin 1728, ∑ k : Fin 4, (l (ix4 b s j k) * r (ix3 d j k) : EReal)) := by
  simp only [Host.dotGeneral]
  rw [Ideal.dotGeneral_apply, sum_contr2 dot_S24x512x1728x4_S2560x1728x4_S24x512x2560_23_12_01_0_n_n 1728 4 rfl rfl rfl]
  refine Finset.sum_congr rfl fun j _ => Finset.sum_congr rfl fun k _ => ?_
  congr 2
  · funext a
    match a with
    | ⟨0, _⟩ => rfl
    | ⟨1, _⟩ => rfl
    | ⟨2, _⟩ => exact Fin.ext (contrEquiv2_symm_val0 dot_S24x512x1728x4_S2560x1728x4_S24x512x2560_23_12_01_0_n_n 1728 4 rfl rfl rfl (j, k))
    | ⟨3, _⟩ => exact Fin.ext (contrEquiv2_symm_val1 dot_S24x512x1728x4_S2560x1728x4_S24x512x2560_23_12_01_0_n_n 1728 4 rfl rfl rfl (j, k))
  · funext a
    match a with
    | ⟨0, _⟩ => rfl
    | ⟨1, _⟩ => exact Fin.ext (contrEquiv2_symm_val0 dot_S24x512x1728x4_S2560x1728x4_S24x512x2560_23_12_01_0_n_n 1728 4 rfl rfl rfl (j, k))
    | ⟨2, _⟩ => exact Fin.ext (contrEquiv2_symm_val1 dot_S24x512x1728x4_S2560x1728x4_S24x512x2560_23_12_01_0_n_n 1728 4 rfl rfl rfl (j, k))

/-- A sum over the 6912 columns is a sum over bytes and fields. -/
theorem sum_fields (g : Fin 6912 → EReal) :
    ∑ j : Fin 1728, ∑ k : Fin 4, g ⟨4 * j.val + k.val, by omega⟩ = ∑ f : Fin 6912, g f := by
  rw [← Fintype.sum_prod_type' (f := fun (j : Fin 1728) (k : Fin 4) => g ⟨4 * j.val + k.val, by omega⟩),
    ← (finProdFinEquiv (m := 1728) (n := 4)).sum_comp]
  refine Finset.sum_congr rfl fun p _ => ?_
  congr 1
  exact Fin.ext (Nat.add_comm _ _)

/-- The gradient codes, read as numbers; -/
def dyA (c : Dev nD) : S24x512x6912.Idx → EReal := m ((c : Thread nD τ).loc main_arg1)
/-- the scale; -/
def scA (c : Dev nD) : EReal := m ((c : Thread nD τ).loc main_arg2) ix0
/-- the region codes; -/
def rcA (c : Dev nD) : S2560x1728.Idx → BitVec 8 := m ((c : Thread nD τ).loc main_arg3)
/-- the positive weight -/
def wpA (c : Dev nD) : EReal := m ((c : Thread nD τ).loc main_arg4) ix0
/-- and the negative one. -/
def wnA (c : Dev nD) : EReal := m ((c : Thread nD τ).loc main_arg5) ix0

/-- THE REFERENCE'S RESULT at token `512 b + s` and model column `d`. -/
theorem result_apply (c : Dev nD) (b : Fin 24) (s : Fin 512) (t : Fin 12288) (ht : t.val = 512 * b.val + s.val) (d : Fin 2560) :
    result m c (ix2 t d)
      = ((∑ f : Fin 6912, dyA m c (ix3 b s f) * wsel (wpA m c) (wnA m c) (fld (rcA m c (ix2 d ⟨f.val / 4, by omega⟩)) (f.val % 4)))
        * scA m c : EReal) := by
  unfold result tailOf
  rw [shapeCast_apply _ _ (ix2 t d) (ix3 b s d) (by
    rw [rowMajor_val3 (σ0 := 512 * 2560) (σ1 := 2560) _ rfl rfl, rowMajor_val2 (σ0 := 2560) _ rfl]
    show b.val * (512 * 2560) + s.val * 2560 + d.val = t.val * 2560 + d.val
    omega)]
  show ((Host.dotGeneral dot_S24x512x1728x4_S2560x1728x4_S24x512x2560_23_12_01_0_n_n none _ _ : FVec Ideal S24x512x2560 .f32) (ix3 b s d) : EReal)
    * (broadcastInDim (s := S_) S24x512x2560 ![] _ _ (ix3 b s d) : EReal) = _
  rw [broadcastInDim_scalar_apply, dot_apply, ← sum_fields]
  congr 1
  refine Finset.sum_congr rfl fun j _ => Finset.sum_congr rfl fun k _ => ?_
  rw [shapeCast_apply _ _ (ix4 b s j k) (ix3 b s ⟨4 * j.val + k.val, by omega⟩ : S24x512x6912.Idx) (by
    rw [rowMajor_val3 (σ0 := 512 * 6912) (σ1 := 6912) _ rfl rfl, rowMajor_val4 (σ0 := 512 * 1728 * 4) (σ1 := 1728 * 4) (σ2 := 4) _ rfl rfl rfl]
    show b.val * (512 * 6912) + s.val * 6912 + (4 * j.val + k.val) = b.val * (512 * 1728 * 4) + s.val * (1728 * 4) + j.val * 4 + k.val
    omega)]
  congr 1
  show Scalar.select (IntOp.cmpi .eq (fieldsOf _ (ix3 d j k)) (broadcastInDim (s := S_) S2560x1728x4 ![] _ _ (ix3 d j k))) (broadcastInDim (s := S_) S2560x1728x4 ![] _ _ (ix3 d j k) : EReal)
    (Scalar.select (IntOp.cmpi .eq (fieldsOf _ (ix3 d j k)) (broadcastInDim (s := S_) S2560x1728x4 ![] _ _ (ix3 d j k))) (broadcastInDim (s := S_) S2560x1728x4 ![] _ _ (ix3 d j k) : EReal)
      (broadcastInDim (s := S_) S2560x1728x4 ![] _ _ (ix3 d j k) : EReal)) = _
  rw [broadcastInDim_scalar_apply, broadcastInDim_scalar_apply, broadcastInDim_scalar_apply, broadcastInDim_scalar_apply, broadcastInDim_scalar_apply,
    fieldsOf_apply, select_cmpi, select_cmpi]
  have e1 : (⟨(4 * j.val + k.val) / 4, by omega⟩ : Fin 1728) = j := Fin.ext (by show (4 * j.val + k.val) / 4 = j.val; omega)
  have e2 : (4 * j.val + k.val) % 4 = k.val := by omega
  unfold wsel
  simp only [e1, e2]
  have hz : (constant S_ .bf16 0x0000#16 : FVec Ideal S_ .bf16) ix0 = (0 : EReal) := Ideal.ofBits_zero_bf16
  rw [hz]
  rfl

end Cert.RefDxIdeal.Val

end
-- ==== Proof.DxAlg.lean ====
/- The value claim for `dx`: the ideal kernel's result is the ideal reference's, element by element. -/
module

public import proofs.«01_k».proof.Defs
public import proofs.«01_k».proof.Proof.DxValue
public import proofs.«01_k».proof.Proof.RefDxValue

@[expose] public section

set_option maxRecDepth 16384

noncomputable section

namespace Cert.DxAlg

open Idealize.ShloMosaic hiding ix0 ix1 ix2 ix3 ix4
open Idealize.ShloMosaic.TcCoe Idealize.ShloMosaic.ValueIdx
open Idealize.SL.Sem Cert.Region

/-- The kernel's and the reference's result hold the same numbers when the arguments do. -/
theorem values (m : (ℓ : Loc DxIdeal.nD DxIdeal.τ DxIdeal.sig) → Buf (Elt Ideal) ℓ) (m' : (ℓ : Loc RefDxIdeal.nD RefDxIdeal.τ RefDxIdeal.sig) → Buf (Elt Ideal) ℓ)
    (c : Dev DxIdeal.nD)
    (h1 : m' ((c.tc : Thread RefDxIdeal.nD RefDxIdeal.τ).loc RefDxIdeal.main_arg1) = m ((c.tc : Thread DxIdeal.nD DxIdeal.τ).loc DxIdeal.main_arg1))
    (h2 : m' ((c.tc : Thread RefDxIdeal.nD RefDxIdeal.τ).loc RefDxIdeal.main_arg2) = m ((c.tc : Thread DxIdeal.nD DxIdeal.τ).loc DxIdeal.main_arg2))
    (h3 : m' ((c.tc : Thread RefDxIdeal.nD RefDxIdeal.τ).loc RefDxIdeal.main_arg3) = m ((c.tc : Thread DxIdeal.nD DxIdeal.τ).loc DxIdeal.main_arg3))
    (h4 : m' ((c.tc : Thread RefDxIdeal.nD RefDxIdeal.τ).loc RefDxIdeal.main_arg4) = m ((c.tc : Thread DxIdeal.nD DxIdeal.τ).loc DxIdeal.main_arg4))
    (h5 : m' ((c.tc : Thread RefDxIdeal.nD RefDxIdeal.τ).loc RefDxIdeal.main_arg5) = m ((c.tc : Thread DxIdeal.nD DxIdeal.τ).loc DxIdeal.main_arg5)) :
    (RefDxIdeal.Val.result m' c : DxIdeal.S12288x2560.Idx → EReal) = DxIdeal.Value.G5 m c := by
  funext y
  obtain ⟨t, d, rfl⟩ : ∃ (t : Fin 12288) (d : Fin 2560), y = ix2 t d := ⟨y 0, y 1, by funext a; fin_cases a <;> rfl⟩
  refine (RefDxIdeal.Val.result_apply m' c ⟨t.val / 512, by omega⟩ ⟨t.val % 512, by omega⟩ t (by show t.val = 512 * (t.val / 512) + t.val % 512; omega) d).trans ?_
  refine Eq.trans ?_ (DxIdeal.Val.G5_apply m c t d).symm
  unfold RefDxIdeal.Val.dyA RefDxIdeal.Val.wpA RefDxIdeal.Val.wnA RefDxIdeal.Val.rcA RefDxIdeal.Val.scA
  rw [h1, h2, h3, h4, h5]
  refine congrArg (fun z : EReal => z * DxIdeal.Val.sc m c) (Finset.sum_congr rfl fun f _ => ?_)
  refine congrArg₂ (fun a b : EReal => a * b) ?_ rfl
  unfold DxIdeal.Val.dyv
  rw [DxIdeal.Val.V_dy]
  refine (shapeCast_apply _ _ (ix2 t f) _ ?_).symm
  rw [rowMajor_val3 (σ0 := 512 * 6912) (σ1 := 6912) _ rfl rfl, rowMajor_val2 (σ0 := 6912) _ rfl]
  show t.val / 512 * (512 * 6912) + t.val % 512 * 6912 + f.val = t.val * 6912 + f.val
  omega

/-- `dx`, kernel against reference. -/
theorem algebraic : Cert.algebraic_DxIdeal_RefDxIdeal := by
  intro m g m' g' _ h
  refine ⟨fun c => DxIdeal.Value.G5 m c, DxIdeal.Value.run m g, ?_⟩
  refine (θ_run RefDxIdeal.defs _ _).mono (fun r hr c => ⟨(hr c).1.trans ?_, (hr c).2⟩) (RefDxIdeal.Val.run m' g')
  exact values m m' c (h c).2.1 (h c).2.2.1 (h c).2.2.2.1 (h c).2.2.2.2.1 (h c).2.2.2.2.2

end Cert.DxAlg

end
-- ==== Proof.DwRuns.lean ====
module

public import proofs.«01_k».proof.Proof.Gen.Dw.Frame
public import proofs.«01_k».proof.Proof.Gen.Dw.Loops

@[expose] public section

set_option maxRecDepth 16384

noncomputable section

/-!
The branch conditions of the `dw` kernel's body at a grid point, and the names of its operands.
-/

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 54 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_1 : ∀ t : Fin cfg0.N, cond0_1 (grid0.coords t) ↔ t.val % 6 = 0 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_1, e0, e1]
    word_cmp
   : ∀ t : Fin grid0.N, cond0_1 (grid0.coords t) ↔ t.val % 6 = 0)

/-- The condition of the body's `scf.if` 2 (`k0_h3`), from the grid coordinates (the skeleton's scalar
    chain substituted). -/
abbrev cond0_2 (i : grid0.Coords) : Prop := k0_cond3 i = 1#1
/-- It holds at the points ≡ 5 (mod 6) — by arithmetic of the point. -/
theorem hcond0_2 : ∀ t : Fin cfg0.N, cond0_2 (grid0.coords t) ↔ t.val % 6 = 5 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 5)

/-- The condition of the body's `scf.if` 3 (`k0_h4`), from the grid coordinates (the skeleton's scalar
    chain substituted). -/
abbrev cond0_3 (i : grid0.Coords) : Prop := k0_cond4 i = 1#1
/-- It holds at the points from point 48 on — by arithmetic of the point. -/
theorem hcond0_3 : ∀ t : Fin cfg0.N, cond0_3 (grid0.coords t) ↔ 48 ≤ t.val :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ 48 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ cond0_2 i ∧ cond0_3 i
instance conds0_E.dec (i : grid0.Coords) : Decidable (conds0_E i) :=
  @instDecidableAnd _ _ inferInstance (@instDecidableAnd _ _ inferInstance (@instDecidableAnd _ _ inferInstance inferInstance))
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → ¬cond0_2 (grid0.coords t) → (cfg0.win 8).flush t = false := by decide +kernel
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_C (grid0.coords t) → cfg0.idle 8 (grid0.coords t) = true) t ⟨h0, h1, h2, h3⟩
/-- At the points of case C the pipeline does not write output 8's block back. -/
theorem noFlush0_8_C : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_C (grid0.coords t) → (cfg0.win 8).flush t = false) t ⟨h0, h1, h2, h3⟩
/-- At the points of case D the printed configuration (`Cfg.idle`) calls output 8 idle: the case stores nothing into it. -/
theorem idleAt0_8_D : ∀ t : Fin cfg0.N, ¬cond0_0 (grid0.coords t) → cond0_1 (grid0.coords t) → ¬cond0_2 (grid0.coords t) → cfg0.idle 8 (grid0.coords t) = true := by decide +kernel
/-- At the points of case D the pipeline does not write output 8's block back. -/
theorem noFlush0_8_D : ∀ t : Fin cfg0.N, ¬cond0_0 (grid0.coords t) → cond0_1 (grid0.coords t) → ¬cond0_2 (grid0.coords t) → (cfg0.win 8).flush t = false := by decide +kernel
/-- At the points of case E the printed configuration (`Cfg.idle`) calls output 8 live: the case stores into it. -/
theorem liveAt0_8_E : ∀ t : Fin cfg0.N, ¬cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_E (grid0.coords t) → cfg0.idle 8 (grid0.coords t) = false) t ⟨h0, h1, h2, h3⟩
/-- At the points of case A the printed configuration (`Cfg.idle`) calls output 9 idle: the case stores nothing into it. -/
theorem idleAt0_9_A : ∀ t : Fin cfg0.N, cond0_0 (grid0.coords t) → cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → ¬cond0_2 (grid0.coords t) → (cfg0.win 9).flush t = false := by decide +kernel
/-- At the points of case C the printed configuration (`Cfg.idle`) calls output 9 idle: the case stores nothing into it. -/
theorem idleAt0_9_C : ∀ t : Fin cfg0.N, ¬cond0_0 (grid0.coords t) → ¬cond0_1 (grid0.coords t) → cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- At the points of case C the pipeline does not write output 9's block back. -/
theorem noFlush0_9_C : ∀ t : Fin cfg0.N, ¬cond0_0 (grid0.coords t) → ¬cond0_1 (grid0.coords t) → cond0_2 (grid0.coords t) → ¬cond0_3 (grid0.coords t) → (cfg0.win 9).flush t = false :=
  fun t h0 h1 h2 h3 => (by decide +kernel : ∀ t : Fin cfg0.N, conds0_C (grid0.coords t) → (cfg0.win 9).flush t = false) t ⟨h0, h1, h2, h3⟩
/-- At the points of case D the printed configuration (`Cfg.idle`) calls output 9 idle: the case stores nothing into it. -/
theorem idleAt0_9_D : ∀ t : Fin cfg0.N, ¬cond0_0 (grid0.coords t) → cond0_1 (grid0.coords t) → ¬cond0_2 (grid0.coords t) → cfg0.idle 9 (grid0.coords t) = true := by decide +kernel
/-- At the points of case D the pipeline does not write output 9's block back. -/
theorem noFlush0_9_D : ∀ t : Fin cfg0.N, ¬cond0_0 (grid0.coords t) → cond0_1 (grid0.coords t) → ¬cond0_2 (grid0.coords t) → (cfg0.win 9).flush t = false := by decide +kernel
/-- At the points of case E the printed configuration (`Cfg.idle`) calls output 9 live: the case stores into it. -/
theorem liveAt0_9_E : ∀ t : Fin cfg0.N, ¬cond0_0 (grid0.coords t) → ¬cond0_1 (grid0.coords t) → cond0_2 (grid0.coords t) → cond0_3 (grid0.coords t) → cfg0.idle 9 (grid0.coords t) = false :=
  fun t h0 h1 h2 h3 => (by decide +kernel : ∀ t : Fin cfg0.N, conds0_E (grid0.coords t) → cfg0.idle 9 (grid0.coords t) = false) t ⟨h0, h1, h2, h3⟩

/-! ## The kernel body on any staging memrefs: a subtype the run finds -/

/-- One staging buffer of output window 7, through which its contents are stated (`View.read_writes_of_cover`: the
    choice does not matter). -/
abbrev VO0_7 : View sig .tc .vmem S2560x768 .f32 := (Memref.whole cc0_stg7_0 : Memref sig .tc .vmem S2560x768 .f32).view
/-- One staging buffer of output window 8, through which its contents are stated (`View.read_writes_of_cover`: the
    choice does not matter). -/
abbrev VO0_8 : View sig .tc .smem S1x1 .f32 := (Memref.whole cc0_stg8_0 : Memref sig .tc .smem S1x1 .f32).view
/-- One staging buffer of output window 9, through which its contents are stated (`View.read_writes_of_cover`: the
    choice does not matter). -/
abbrev VO0_9 : View sig .tc .smem S1x1 .f32 := (Memref.whole cc0_stg9_0 : Memref sig .tc .smem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x768 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x8x128 .f32 := Memref.whole cc0_scratch0
/-- The scratch `arg12` the kernel carries between points, as a view: what it holds is stated through it. -/
abbrev VS0_0 : View sig .tc .vmem S2x8x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Dw.Gen

end
-- ==== Proof.DwRunA.lean ====
module

public import proofs.«01_k».proof.Proof.DwRuns

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : cond0_0 i) (hc1 : cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], ?_, fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; iexact HS0

end Cert.Dw.Gen

end
-- ==== Proof.DwRunB.lean ====
module

public import proofs.«01_k».proof.Proof.DwRunA

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 52: 36 of 54), WITH the
    proof that on whole staging memrefs — the inputs' at their contents, the outputs it reads before covering (7) at their running contents `xo·`, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], [], fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.Dw.Gen

end
-- ==== Proof.DwRunC.lean ====
module

public import proofs.«01_k».proof.Proof.DwRunB

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 5, 11, … 47: 8 of 54), WITH the
    proof that on whole staging memrefs — the inputs' at their contents, the outputs it reads before covering (7) at their running contents `xo·`, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : cond0_2 i) (hc3 : ¬cond0_3 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], ?_, fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; iexact HS0

end Cert.Dw.Gen

end
-- ==== Proof.DwRunD.lean ====
module

public import proofs.«01_k».proof.Proof.DwRunC

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken: points 6, 12, … 48: 8 of 54), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], [], fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.Dw.Gen

end
-- ==== Proof.DwRunE.lean ====
module

public import proofs.«01_k».proof.Proof.DwRunD

@[expose] public section

-- membership in a rectangle of production extents (`View.cover_of_tiled`): the elaborator's structural look
-- recurses once per coordinate of the long axes
set_option maxRecDepth 16384

noncomputable section

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 taken: points 53), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : cond0_2 i) (hc3 : cond0_3 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact HS0

end Cert.Dw.Gen

end
-- ==== Proof.DwFrame.lean ====
module

public import proofs.«01_k».proof.Proof.DwRunE

@[expose] public section

set_option maxRecDepth 16384

noncomputable section

/-!
The frame of the `dw` kernel: every execution terminates, the argument arrays end as they began and no signal is left
pending. What the body leaves in its three outputs and in its scratch is not named here; its inputs are, each as the
block of the point, which the body only reads.
-/

namespace Cert.Dw.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At any point and for any contents of its operands the body runs to its end, leaves its inputs as they were and gives
    its outputs and its scratch back at some contents. -/
theorem any_run (c : Dev nD) (t : Fin cfg0.N) (x0 x1 x2 : Vec F S1x1 .f32) (x3 x4 : Vec F S2560x128 .i8)
    (x5 : Vec F S2048x2560 .bf16) (x6 : Vec F S2048x768 .fp8e5m2) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) scM0_0 fullShare d)
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare x6 ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) scM0_0 fullShare d)) -∗ K ⟨⟩))
      ⊢ wp frame (wpE (defs₀ (F := F)) Variants.none c none) Set.univ (bodyAt0 t) K := by
  unfold bodyAt0
  have hN : t.val < 54 := lt_of_lt_of_eq t.isLt (show cfg0.N = 54 from N_0)
  by_cases h2 : t.val % 6 = 5
  · have h0 : ¬t.val % 54 = 0 := by omega
    have h1 : ¬t.val % 6 = 0 := by omega
    by_cases h3 : 48 ≤ t.val
    · skip
      iintro ⟨H0, H1, H2, H3, H4, H5, H6, ⟨%d7, H7⟩, ⟨%d8, H8⟩, ⟨%d9, H9⟩, ⟨%ds, HS⟩, Hk⟩
      iapply ((kernelRun0_E c (grid0.coords t) _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) x0 x1 x2 x3 x4 x5 x6 d7 ds).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, ⟨%e7, H7⟩, ⟨%e8, H8⟩, ⟨%e9, H9⟩, ⟨%es, HS⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; unfold owns; iexists _; isplitr; swap; iexact H7; ipureintro; rfl
      isplitl [H8]; · iexists _; unfold owns; iexists _; isplitr; swap; iexact H8; ipureintro; rfl
      isplitl [H9]; · iexists _; unfold owns; iexists _; isplitr; swap; iexact H9; ipureintro; rfl
      iexists _; unfold owns; iexists _; isplitr; swap; iexact HS; ipureintro; rfl
    · skip
      iintro ⟨H0, H1, H2, H3, H4, H5, H6, ⟨%d7, H7⟩, ⟨%d8, H8⟩, ⟨%d9, H9⟩, ⟨%ds, HS⟩, Hk⟩
      iapply ((kernelRun0_C c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) x0 x1 x2 x3 x4 x5 x6 d7 ds).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, ⟨%e7, H7⟩, H8, H9, ⟨%es, HS⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; unfold owns; iexists _; isplitr; swap; iexact H7; ipureintro; rfl
      isplitl [H8]; · iexists _; iexact H8
      isplitl [H9]; · iexists _; iexact H9
      iexists _; unfold owns; iexists _; isplitr; swap; iexact HS; ipureintro; rfl
  · by_cases h1 : t.val % 6 = 0
    · by_cases h0 : t.val % 54 = 0
      · skip
        iintro ⟨H0, H1, H2, H3, H4, H5, H6, ⟨%d7, H7⟩, ⟨%d8, H8⟩, ⟨%d9, H9⟩, ⟨%ds, HS⟩, Hk⟩
        iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) x0 x1 x2 x3 x4 x5 x6).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS]; · iexists _; iexact HS
        iintro ⟨H0, H1, H2, H3, H4, H5, H6, ⟨%e7, H7⟩, H8, H9, ⟨%es, HS⟩⟩
        iapply Hk
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; unfold owns; iexists _; isplitr; swap; iexact H7; ipureintro; rfl
        isplitl [H8]; · iexists _; iexact H8
        isplitl [H9]; · iexists _; iexact H9
        iexists _; unfold owns; iexists _; isplitr; swap; iexact HS; ipureintro; rfl
      · skip
        iintro ⟨H0, H1, H2, H3, H4, H5, H6, ⟨%d7, H7⟩, ⟨%d8, H8⟩, ⟨%d9, H9⟩, ⟨%ds, HS⟩, Hk⟩
        iapply ((kernelRun0_D c (grid0.coords t) _ _ _ _ _ _ _ _ _ _ _ _ _ _ _ _ _ _ _ _ _ _ (fun h => h0 ((hcond0_0 t).mp h)) ((hcond0_1 t).mpr h1) (fun h => h2 ((hcond0_2 t).mp h)) x0 x1 x2 x3 x4 x5 x6 ds).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS]; · iexact HS
        iintro ⟨H0, H1, H2, H3, H4, H5, H6, ⟨%e7, H7⟩, H8, H9, HS⟩
        iapply Hk
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; unfold owns; iexists _; isplitr; swap; iexact H7; ipureintro; rfl
        isplitl [H8]; · iexists _; iexact H8
        isplitl [H9]; · iexists _; iexact H9
        iexists _; iexact HS
    · have h0 : ¬t.val % 54 = 0 := by omega
      iintro ⟨H0, H1, H2, H3, H4, H5, H6, ⟨%d7, H7⟩, ⟨%d8, H8⟩, ⟨%d9, H9⟩, ⟨%ds, HS⟩, Hk⟩
      iapply ((kernelRun0_B c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) x0 x1 x2 x3 x4 x5 x6 d7 ds).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, ⟨%e7, H7⟩, H8, H9, HS⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; unfold owns; iexists _; isplitr; swap; iexact H7; ipureintro; rfl
      isplitl [H8]; · iexists _; iexact H8
      isplitl [H9]; · iexists _; iexact H9
      iexists _; iexact HS

/-! ## The proof data -/

/-- A word for the part of the fifth window's buffer that no transfer fills. -/
def dflt4 : (cfg0.win 4).block.Idx → Elt F (cfg0.win 4).elt := fun _ => Classical.choice inferInstance

/-- The fifth window's buffer after a fetch at `t`, over `d`. -/
def X4 (c : Dev nD) (t : Fin cfg0.N) (d : (cfg0.win 4).block.Idx → Elt F (cfg0.win 4).elt) :
    (cfg0.win 4).block.Idx → Elt F (cfg0.win 4).elt :=
  (cfg0.win 4).fill (cfg0.grid.coords t) d (iblk m c 4 t)

/-- The outputs, of whose contents nothing is said. -/
def fgt : Fin cfg0.W → Bool
  | ⟨0, _⟩ => false | ⟨1, _⟩ => false | ⟨2, _⟩ => false | ⟨3, _⟩ => false | ⟨4, _⟩ => false
  | ⟨5, _⟩ => false | ⟨6, _⟩ => false | ⟨7, _⟩ => true | ⟨8, _⟩ => true | ⟨9, _⟩ => true

/-- The proof data: each input's buffer holds its block, the outputs anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X4 m c t dflt4
    | ⟨5, _⟩ => iblk m c 5 t
    | ⟨6, _⟩ => iblk m c 6 t
    | ⟨7, _⟩ => fun _ => Classical.choice inferInstance
    | ⟨8, _⟩ => fun _ => Classical.choice inferInstance
    | ⟨9, _⟩ => fun _ => Classical.choice inferInstance
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X4 m c t dflt4 := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- What the fifth window's buffer holds at a point: its block over something. -/
theorem before0_4 (c : Dev nD) (t : Fin cfg0.N) (d) : (dats m 0 c).before 4 t d = X4 m c t d := by
  refine ((dats m 0 c).before_in_eq_fetched 4 rfl (fun _ => rfl) ?_ (fun t => ?_) t d).trans ?_
  · exact fun t t' h => funext fun a => congrArg (fun n => Pipeline.Clip.of n ((cfg0.win 4).size a) (S2560x1728.size a)) (congrFun h a)
  · rw [after0_4]; unfold X4 Dat.blockOf iblk; rw [Window.cut_fill, A_eq]
  · unfold Dat.fetched Dat.blockOf X4 iblk; rw [A_eq]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ X, owns (c : Thread nD τ) (ms0_7 t) fullShare X)
    ∗ (∃ X, owns (c : Thread nD τ) (ms0_8 t) fullShare X)
    ∗ (∃ X, owns (c : Thread nD τ) (ms0_9 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare ((cfg0.win 3).fill (cfg0.grid.coords t) d ((cfg0.win 3).cut (cfg0.grid.coords t) ((dats m 0 c).after 3 t))))
    ∗ (∃ d, owns (c : Thread nD τ) (ms0_4 t) fullShare ((cfg0.win 4).fill (cfg0.grid.coords t) d ((cfg0.win 4).cut (cfg0.grid.coords t) ((dats m 0 c).after 4 t))))
    ∗ owns (c : Thread nD τ) (ms0_5 t) fullShare ((dats m 0 c).after 5 t)
    ∗ owns (c : Thread nD τ) (ms0_6 t) fullShare ((dats m 0 c).after 6 t)
    ∗ (∃ X, owns (c : Thread nD τ) (ms0_7 t) fullShare X)
    ∗ (∃ X, owns (c : Thread nD τ) (ms0_8 t) fullShare X)
    ∗ (∃ X, owns (c : Thread nD τ) (ms0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6,
    after0_0, after0_1, after0_2, after0_3, after0_4, after0_5, after0_6]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (any_run c t (iblk m c 0 t) (iblk m c 1 t) (iblk m c 2 t) (X0_3 m c t) (X4 m c t d4) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]
  · iexists (X0_3 m c t); rw [Window.fill_cut]; iexact H3
  isplitl [H4]
  · iexists d4; unfold X4; rw [Window.cut_fill]; iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The run: it terminates, each input's array and every buffer the pipeline does not stage as the region found it. -/
theorem run_main_quiescent : θ_run defs (onTc (τ := τ) (main (F := F))) (s₀ m ρ)
    (fun r => (RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := body_obligation m) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (RDat.FramePost.arr_in h.1 c 4 rfl).trans ((A_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main_quiescent m ρ)

end Cert.Dw.Gen

end
-- ==== Proof.DwIdealRuns.lean ====
module

public import proofs.«01_k».proof.Proof.Gen.DwIdeal.Frame
public import proofs.«01_k».proof.Proof.Gen.DwIdeal.Loops

@[expose] public section

set_option maxRecDepth 16384

noncomputable section

/-!
The branch conditions of the `dw` kernel's body at a grid point, and the names of its operands.
-/

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 54 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_1 : ∀ t : Fin cfg0.N, cond0_1 (grid0.coords t) ↔ t.val % 6 = 0 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_1, e0, e1]
    word_cmp
   : ∀ t : Fin grid0.N, cond0_1 (grid0.coords t) ↔ t.val % 6 = 0)

/-- The condition of the body's `scf.if` 2 (`k0_h3`), from the grid coordinates (the skeleton's scalar
    chain substituted). -/
abbrev cond0_2 (i : grid0.Coords) : Prop := k0_cond3 i = 1#1
/-- It holds at the points ≡ 5 (mod 6) — by arithmetic of the point. -/
theorem hcond0_2 : ∀ t : Fin cfg0.N, cond0_2 (grid0.coords t) ↔ t.val % 6 = 5 :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_2, k0_cond3, e0, e1]
    word_cmp
   : ∀ t : Fin grid0.N, cond0_2 (grid0.coords t) ↔ t.val % 6 = 5)

/-- The condition of the body's `scf.if` 3 (`k0_h4`), from the grid coordinates (the skeleton's scalar
    chain substituted). -/
abbrev cond0_3 (i : grid0.Coords) : Prop := k0_cond4 i = 1#1
/-- It holds at the points from point 48 on — by arithmetic of the point. -/
theorem hcond0_3 : ∀ t : Fin cfg0.N, cond0_3 (grid0.coords t) ↔ 48 ≤ t.val :=
  (fun t => by
    have ht : t.val < 54 := Nat.lt_of_lt_of_eq t.isLt N_0
    have e0 : (grid0.coords t 0).val = t.val / 6 % 9 := Pipeline.Grid.coords_val t 0 (by decide) rfl
    have e1 : (grid0.coords t 1).val = t.val / 1 % 6 := Pipeline.Grid.coords_val t 1 (by decide) rfl
    simp only [cond0_3, k0_cond4, e0, e1]
    word_cmp
   : ∀ t : Fin grid0.N, cond0_3 (grid0.coords t) ↔ 48 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ cond0_2 i ∧ cond0_3 i
instance conds0_E.dec (i : grid0.Coords) : Decidable (conds0_E i) :=
  @instDecidableAnd _ _ inferInstance (@instDecidableAnd _ _ inferInstance (@instDecidableAnd _ _ inferInstance inferInstance))
/-- At the points of case A the printed configuration (`Cfg.idle`) calls output 8 idle: the case stores nothing into it. -/
theorem idleAt0_8_A : ∀ t : Fin cfg0.N, cond0_0 (grid0.coords t) → cond0_1 (grid0.coords t) → ¬cond0_2 (grid0.coords t) → cfg0.idle 8 (grid0.coords t) = true := by decide +kernel
/-- At the points of case A the pipeline does not write output 8's block back. -/
theorem noFlush0_8_A : ∀ t : Fin cfg0.N, cond0_0 (grid0.coords t) → cond0_1 (grid0.coords t) → ¬cond0_2 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → ¬cond0_2 (grid0.coords t) → (cfg0.win 8).flush t = false := by decide +kernel
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → ¬cond0_3 (grid0.coords t) → cfg0.idle 8 (grid0.coords t) = true :=
  fun t h0 h1 h2 h3 => (by decide +kernel : ∀ t : Fin cfg0.N, conds0_C (grid0.coords t) → cfg0.idle 8 (grid0.coords t) = true) t ⟨h0, h1, h2, h3⟩
/-- At the points of case C the pipeline does not write output 8's block back. -/
theorem noFlush0_8_C : ∀ t : Fin cfg0.N, ¬cond0_0 (grid0.coords t) → ¬cond0_1 (grid0.coords t) → cond0_2 (grid0.coords t) → ¬cond0_3 (grid0.coords t) → (cfg0.win 8).flush t = false :=
  fun t h0 h1 h2 h3 => (by decide +kernel : ∀ t : Fin cfg0.N, conds0_C (grid0.coords t) → (cfg0.win 8).flush t = false) t ⟨h0, h1, h2, h3⟩
/-- At the points of case D the printed configuration (`Cfg.idle`) calls output 8 idle: the case stores nothing into it. -/
theorem idleAt0_8_D : ∀ t : Fin cfg0.N, ¬cond0_0 (grid0.coords t) → cond0_1 (grid0.coords t) → ¬cond0_2 (grid0.coords t) → cfg0.idle 8 (grid0.coords t) = true := by decide +kernel
/-- At the points of case D the pipeline does not write output 8's block back. -/
theorem noFlush0_8_D : ∀ t : Fin cfg0.N, ¬cond0_0 (grid0.coords t) → cond0_1 (grid0.coords t) → ¬cond0_2 (grid0.coords t) → (cfg0.win 8).flush t = false := by decide +kernel
/-- At the points of case E the printed configuration (`Cfg.idle`) calls output 8 live: the case stores into it. -/
theorem liveAt0_8_E : ∀ t : Fin cfg0.N, ¬cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_E (grid0.coords t) → cfg0.idle 8 (grid0.coords t) = false) t ⟨h0, h1, h2, h3⟩
/-- At the points of case A the printed configuration (`Cfg.idle`) calls output 9 idle: the case stores nothing into it. -/
theorem idleAt0_9_A : ∀ t : Fin cfg0.N, cond0_0 (grid0.coords t) → cond0_1 (grid0.coords t) → ¬cond0_2 (grid0.coords t) → cfg0.idle 9 (grid0.coords t) = true := by decide +kernel
/-- At the points of case A the pipeline does not write output 9's block back. -/
theorem noFlush0_9_A : ∀ t : Fin cfg0.N, cond0_0 (grid0.coords t) → cond0_1 (grid0.coords t) → ¬cond0_2 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → ¬cond0_2 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → ¬cond0_2 (grid0.coords t) → (cfg0.win 9).flush t = false := by decide +kernel
/-- At the points of case C the printed configuration (`Cfg.idle`) calls output 9 idle: the case stores nothing into it. -/
theorem idleAt0_9_C : ∀ t : Fin cfg0.N, ¬cond0_0 (grid0.coords t) → ¬cond0_1 (grid0.coords t) → cond0_2 (grid0.coords t) → ¬cond0_3 (grid0.coords t) → cfg0.idle 9 (grid0.coords t) = true :=
  fun t h0 h1 h2 h3 => (by decide +kernel : ∀ t : Fin cfg0.N, conds0_C (grid0.coords t) → cfg0.idle 9 (grid0.coords t) = true) t ⟨h0, h1, h2, h3⟩
/-- At the points of case C the pipeline does not write output 9's block back. -/
theorem noFlush0_9_C : ∀ t : Fin cfg0.N, ¬cond0_0 (grid0.coords t) → ¬cond0_1 (grid0.coords t) → cond0_2 (grid0.coords t) → ¬cond0_3 (grid0.coords t) → (cfg0.win 9).flush t = false :=
  fun t h0 h1 h2 h3 => (by decide +kernel : ∀ t : Fin cfg0.N, conds0_C (grid0.coords t) → (cfg0.win 9).flush t = false) t ⟨h0, h1, h2, h3⟩
/-- At the points of case D the printed configuration (`Cfg.idle`) calls output 9 idle: the case stores nothing into it. -/
theorem idleAt0_9_D : ∀ t : Fin cfg0.N, ¬cond0_0 (grid0.coords t) → cond0_1 (grid0.coords t) → ¬cond0_2 (grid0.coords t) → cfg0.idle 9 (grid0.coords t) = true := by decide +kernel
/-- At the points of case D the pipeline does not write output 9's block back. -/
theorem noFlush0_9_D : ∀ t : Fin cfg0.N, ¬cond0_0 (grid0.coords t) → cond0_1 (grid0.coords t) → ¬cond0_2 (grid0.coords t) → (cfg0.win 9).flush t = false := by decide +kernel
/-- At the points of case E the printed configuration (`Cfg.idle`) calls output 9 live: the case stores into it. -/
theorem liveAt0_9_E : ∀ t : Fin cfg0.N, ¬cond0_0 (grid0.coords t) → ¬cond0_1 (grid0.coords t) → cond0_2 (grid0.coords t) → cond0_3 (grid0.coords t) → cfg0.idle 9 (grid0.coords t) = false :=
  fun t h0 h1 h2 h3 => (by decide +kernel : ∀ t : Fin cfg0.N, conds0_E (grid0.coords t) → cfg0.idle 9 (grid0.coords t) = false) t ⟨h0, h1, h2, h3⟩

/-! ## The kernel body on any staging memrefs: a subtype the run finds -/

/-- One staging buffer of output window 7, through which its contents are stated (`View.read_writes_of_cover`: the
    choice does not matter). -/
abbrev VO0_7 : View sig .tc .vmem S2560x768 .f32 := (Memref.whole cc0_stg7_0 : Memref sig .tc .vmem S2560x768 .f32).view
/-- One staging buffer of output window 8, through which its contents are stated (`View.read_writes_of_cover`: the
    choice does not matter). -/
abbrev VO0_8 : View sig .tc .smem S1x1 .f32 := (Memref.whole cc0_stg8_0 : Memref sig .tc .smem S1x1 .f32).view
/-- One staging buffer of output window 9, through which its contents are stated (`View.read_writes_of_cover`: the
    choice does not matter). -/
abbrev VO0_9 : View sig .tc .smem S1x1 .f32 := (Memref.whole cc0_stg9_0 : Memref sig .tc .smem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x768 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x8x128 .f32 := Memref.whole cc0_scratch0
/-- The scratch `arg12` the kernel carries between points, as a view: what it holds is stated through it. -/
abbrev VS0_0 : View sig .tc .vmem S2x8x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.DwIdeal.Gen

end
-- ==== Proof.DwIdealRunA.lean ====
module

public import proofs.«01_k».proof.Proof.DwIdealRuns

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : cond0_0 i) (hc1 : cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], ?_, fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; iexact HS0

end Cert.DwIdeal.Gen

end
-- ==== Proof.DwIdealRunB.lean ====
module

public import proofs.«01_k».proof.Proof.DwIdealRunA

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 not taken: points 1, 2, … 52: 36 of 54), WITH the
    proof that on whole staging memrefs — the inputs' at their contents, the outputs it reads before covering (7) at their running contents `xo·`, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], [], fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.DwIdeal.Gen

end
-- ==== Proof.DwIdealRunC.lean ====
module

public import proofs.«01_k».proof.Proof.DwIdealRunB

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 not taken: points 5, 11, … 47: 8 of 54), WITH the
    proof that on whole staging memrefs — the inputs' at their contents, the outputs it reads before covering (7) at their running contents `xo·`, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : cond0_2 i) (hc3 : ¬cond0_3 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], ?_, fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; iexact HS0

end Cert.DwIdeal.Gen

end
-- ==== Proof.DwIdealRunD.lean ====
module

public import proofs.«01_k».proof.Proof.DwIdealRunC

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 taken, `scf.if` 2 not taken: points 6, 12, … 48: 8 of 54), WITH the
    proof that on whole staging memrefs — the inputs' at their contents, the outputs it leaves idle (8, 9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : cond0_1 i) (hc2 : ¬cond0_2 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (xi8 : Vec F S1x1 .f32) (xi9 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, [], [], [], fun xi8 xi9 E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    iexists _; isplitr; · ipureintro; exact harg12.read_unread _
    iexact HS0

end Cert.DwIdeal.Gen

end
-- ==== Proof.DwIdealRunE.lean ====
module

public import proofs.«01_k».proof.Proof.DwIdealRunD

@[expose] public section

-- membership in a rectangle of production extents (`View.cover_of_tiled`): the elaborator's structural look
-- recurses once per coordinate of the long axes
set_option maxRecDepth 16384

noncomputable section

namespace Cert.DwIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE E (`scf.if` 0 not taken, `scf.if` 1 not taken, `scf.if` 2 taken, `scf.if` 3 taken: points 53), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_E (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (hc0 : ¬cond0_0 i) (hc1 : ¬cond0_1 i) (hc2 : cond0_2 i) (hc3 : cond0_3 i)
    (x0 : Vec F S1x1 .f32) (x1 : Vec F S1x1 .f32) (x2 : Vec F S1x1 .f32) (x3 : Vec F S2560x128 .i8) (x4 : Vec F S2560x128 .i8) (x5 : Vec F S2048x2560 .bf16) (x6 : Vec F S2048x768 .fp8e5m2) (xo7 : Vec F S2560x768 .f32) (xs0 : Vec F S2x8x128 .f32) :
    Σ' (L7 : List (View.Piece (Elt F) S2560x768 .f32)), Σ' (L8 : List (View.Piece (Elt F) S1x1 .f32)), Σ' (L9 : List (View.Piece (Elt F) S1x1 .f32)), { LS0 : List (View.Piece (Elt F) S2x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_ttq_dw i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ttq_dw_eq_skeleton]; unfold cc0_ttq_dw_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact HS0

end Cert.DwIdeal.Gen

end
-- ==== Proof.DwTile.lean ====
module

public import proofs.«01_k».proof.Proof.Gen.DwIdeal.Loops
public import proofs.«01_k».proof.Proof.Decode
public import Idealize.ShloMosaic.Lib.Pipeline.ReadBack
public import Idealize.ShloMosaic.Lib.KernelVsHost
public import Idealize.ShloMosaic.Lib.Pointwise.Reduce
public import Idealize.ShloMosaic.Lib.Pointwise.Reshape

@[expose] public section

set_option maxRecDepth 16384

noncomputable section

/-!
One tile of the `dw` kernel's epilogue: the scaled gradient, the region fields, the ternary gradient, and the tile's contribution to the two sums.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe

/-- The lane of a byte position: its remainder by 128, as the kernel computes it. -/
def lane (b : BitVec 32) : BitVec 32 :=
  Scalar.select (Scalar.andi (Scalar.xori (Scalar.cmpi .slt (Scalar.remsi b 128#32) 0#32) 0#1) (Scalar.cmpi .ne (Scalar.remsi b 128#32) 0#32))
    (Scalar.addi (Scalar.remsi b 128#32) 128#32) (Scalar.remsi b 128#32)

/-- The bytes a tile takes: from the first block of codes below lane 128, from the second from there on. -/
def ctile (b : BitVec 32) (ca cb : IVec T256 8) : IVec T256 8 :=
  trunci 8 (Scalar.select (Scalar.cmpi .slt b 128#32) (extui 32 ca (by decide)) (extui 32 cb (by decide))) (by decide)

/-- The region fields of the tile whose first byte is `n` past the offset `ow`. -/
def ftile (ow n : BitVec 32) (ca cb : IVec T256 8) : IVec T256 32 := decode (ctile (Scalar.addi ow n) ca cb) (lane (Scalar.addi ow n))

/-- The tile's gradient, scaled. -/
def gtile (sc : Ideal .f32) (o : FVec Ideal T256 .f32) : FVec Ideal T256 .f32 := mulf (shapeCast T256 o (by decide)) (broadcast T256 sc)

/-- The tile's ternary gradient. -/
def otile (sc wp wn : Ideal .f32) (f : IVec T256 32) (o : FVec Ideal T256 .f32) : FVec Ideal T256 .f32 :=
  select (cmpi .eq f (broadcast T256 1#32)) (mulf (broadcast T256 wp) (gtile sc o))
    (select (cmpi .eq f (broadcast T256 2#32)) (mulf (broadcast T256 wn) (gtile sc o)) (gtile sc o))

/-- One plane of the running sums, after the tile's fields equal to `p` are added. -/
def acc (p : BitVec 32) (sc : Ideal .f32) (f : IVec T256 32) (o : FVec Ideal T256 .f32) (old : FVec Ideal S1x8x128 .f32) : FVec Ideal S1x8x128 .f32 :=
  shapeCast S1x8x128 (addf (shapeCast S8x128 old Facts₀.shapeCasts_S1x8x128_S8x128)
    (multiReduction .add [0] S8x128 (shapeCast S32x8x128 (select (cmpi .eq f (broadcast T256 p)) (gtile sc o)
      (broadcast T256 (Scalar.ofBits .f32 0x00000000#32))) Facts₀.shapeCasts_S256x128_S32x8x128) 0x00000000#32 Facts₀.reduces_S32x8x128_S8x128 (.inl rfl) rfl))
    Facts₀.shapeCasts_S8x128_S1x8x128

/-- The byte at lane `n` of the two blocks of codes side by side. -/
def byteAt (ca cb : S2560x128.Idx → BitVec 8) (r : Fin 2560) (n : ℕ) : BitVec 8 :=
  if h : n < 128 then ca (ix2 r ⟨n, h⟩) else cb (ix2 r ⟨(n - 128) % 128, Nat.mod_lt _ (by decide)⟩)

/-- The ternary choice by field: `wp * g` for 1, `wn * g` for 2, `g` otherwise. -/
def ternv (wp wn : EReal) (f : BitVec 32) (g : EReal) : EReal := if f = 1#32 then wp * g else if f = 2#32 then wn * g else g

theorem select_eq (a b : BitVec 32) (u v : EReal) : Scalar.select (IntOp.cmpi .eq a b) u v = if a = b then u else v := by
  unfold Scalar.select IntOp.cmpi
  by_cases h : a = b
  · simp [h]
  · have h' : (a == b) = false := by simpa using h
    simp [h, h']

theorem gtile_apply (sc : Ideal .f32) (o : FVec Ideal T256 .f32) (y : T256.Idx) : gtile sc o y = (o y : EReal) * sc := by
  unfold gtile
  rw [shapeCast_self]
  rfl

/-- A tile's store at an element. -/
theorem otile_apply (sc wp wn : Ideal .f32) (f : IVec T256 32) (o : FVec Ideal T256 .f32) (y : T256.Idx) :
    otile sc wp wn f o y = ternv wp wn (f y) ((o y : EReal) * sc) := by
  unfold otile ternv
  show Scalar.select (IntOp.cmpi .eq (f y) 1#32) ((wp : EReal) * gtile sc o y) (Scalar.select (IntOp.cmpi .eq (f y) 2#32) ((wn : EReal) * gtile sc o y) (gtile sc o y)) = _
  rw [select_eq, select_eq, gtile_apply]

/-- The offsets and the tile starts for which the lane arithmetic is exact. -/
theorem lane_eq : ∀ e : Fin 2, ∀ t : Fin 6,
    (lane (Scalar.addi (BitVec.ofNat 32 (64 * e.val)) (BitVec.ofNat 32 (32 * t.val)))).toNat = (64 * e.val + 32 * t.val) % 128 := by
  decide +kernel

theorem below_eq : ∀ e : Fin 2, ∀ t : Fin 6,
    Scalar.cmpi .slt (Scalar.addi (BitVec.ofNat 32 (64 * e.val)) (BitVec.ofNat 32 (32 * t.val))) 128#32 = if 64 * e.val + 32 * t.val < 128 then 1#1 else 0#1 := by
  decide +kernel

theorem trunci_extui (c : IVec T256 8) (y : T256.Idx) : trunci 8 (extui 32 c (by decide)) (by decide) y = c y := by
  show ((c y).setWidth 32).setWidth 8 = c y
  ext i hi
  simp

/-- A tile's fields at an element. -/
theorem ftile_apply (e : Fin 2) (t : Fin 6) (k : ℕ) (x3 x4 : S2560x128.Idx → BitVec 8) (ca cb : IVec T256 8)
    (hk : 256 * k + 256 ≤ 2560)
    (hca : ∀ (r : Fin 256) (l : Fin 128), ca (ix2 r l) = x3 (ix2 ⟨256 * k + r.val, by omega⟩ l))
    (hcb : ∀ (r : Fin 256) (l : Fin 128), cb (ix2 r l) = x4 (ix2 ⟨256 * k + r.val, by omega⟩ l)) (r : Fin 256) (l : Fin 128) :
    ftile (BitVec.ofNat 32 (64 * e.val)) (BitVec.ofNat 32 (32 * t.val)) ca cb (ix2 r l)
      = fld (byteAt x3 x4 ⟨256 * k + r.val, by omega⟩ (64 * e.val + (128 * t.val + l.val) / 4)) (l.val % 4) := by
  have hl := lane_eq e t
  have he := e.isLt
  have ht := t.isLt
  have hl' := l.isLt
  unfold ftile
  rw [decode_apply _ _ (by rw [hl]; omega)]
  refine congrArg (fun b => fld b (l.val % 4)) ?_
  unfold ctile byteAt
  rw [below_eq e t]
  by_cases h : 64 * e.val + 32 * t.val < 128
  · rw [if_pos h, dif_pos (by omega)]
    show trunci 8 (Scalar.select 1#1 (extui 32 ca _) (extui 32 cb _)) _ _ = _
    rw [show Scalar.select 1#1 (extui 32 ca (by decide)) (extui 32 cb (by decide)) = extui 32 ca (by decide) from rfl, trunci_extui, hca]
    refine congrArg (fun q => x3 (ix2 _ q)) (Fin.ext ?_)
    show l.val / 4 + (lane (Scalar.addi (BitVec.ofNat 32 (64 * e.val)) (BitVec.ofNat 32 (32 * t.val)))).toNat = 64 * e.val + (128 * t.val + l.val) / 4
    rw [hl]; omega
  · rw [if_neg h, dif_neg (by omega)]
    rw [show Scalar.select 0#1 (extui 32 ca (by decide)) (extui 32 cb (by decide)) = extui 32 cb (by decide) from rfl, trunci_extui, hcb]
    refine congrArg (fun q => x4 (ix2 _ q)) (Fin.ext ?_)
    show l.val / 4 + (lane (Scalar.addi (BitVec.ofNat 32 (64 * e.val)) (BitVec.ofNat 32 (32 * t.val)))).toNat = (64 * e.val + (128 * t.val + l.val) / 4 - 128) % 128
    rw [hl]; omega

/-- The sums' plane at an element: the old value plus the tile's selected gradients over the rows `s, s + 8, …`. -/
theorem acc_apply (p : BitVec 32) (sc : Ideal .f32) (f : IVec T256 32) (o : FVec Ideal T256 .f32) (old : FVec Ideal S1x8x128 .f32) (s : Fin 8) (l : Fin 128) :
    acc p sc f o old (ix3 0 s l)
      = (old (ix3 0 s l) : EReal) + ∑ q : Fin 32, if f (ix2 ⟨8 * q.val + s.val, by omega⟩ l) = p then (o (ix2 ⟨8 * q.val + s.val, by omega⟩ l) : EReal) * sc else 0 := by
  unfold acc
  rw [shapeCast_apply (t := S1x8x128) (s := S8x128) _ _ (ix3 0 s l) (ix2 s l) (by
    rw [rowMajor_val3 (σ0 := 8 * 128) (σ1 := 128) _ rfl rfl, rowMajor_val2 (σ0 := 128) _ rfl]
    show s.val * 128 + l.val = 0 * (8 * 128) + s.val * 128 + l.val; omega)]
  show (shapeCast S8x128 old _ (ix2 s l) : EReal) + (multiReduction (F := Ideal) (φ := .f32) .add [0] S8x128 _ _ _ _ _ (ix2 s l) : EReal) = _
  rw [shapeCast_apply (t := S8x128) (s := S1x8x128) _ _ (ix2 s l) (ix3 0 s l) (by
    rw [rowMajor_val3 (σ0 := 8 * 128) (σ1 := 128) _ rfl rfl, rowMajor_val2 (σ0 := 128) _ rfl]
    show 0 * (8 * 128) + s.val * 128 + l.val = s.val * 128 + l.val; omega)]
  refine congrArg (fun b : EReal => (old (ix3 0 s l) : EReal) + b) ?_
  refine (Ideal.multiReduction_add_single (φ := .f32) _ 0x00000000#32 Facts₀.reduces_S32x8x128_S8x128 (.inl rfl) rfl (ix2 s l)).trans ?_
  refine Finset.sum_congr rfl fun q _ => ?_
  have hq : q.val < 32 := q.isLt
  rw [shapeCast_apply (t := S32x8x128) (s := S256x128) _ _ _ (ix2 ⟨8 * q.val + s.val, by omega⟩ l) (by
    rw [rowMajor_val3 (σ0 := 8 * 128) (σ1 := 128) _ rfl rfl, rowMajor_val2 (σ0 := 128) _ rfl]
    show (8 * q.val + s.val) * 128 + l.val = q.val * (8 * 128) + s.val * 128 + l.val; omega)]
  show Scalar.select (IntOp.cmpi .eq (f _) p) (gtile sc o _) (Ideal.ofBits .f32 0x00000000#32) = _
  rw [select_eq, gtile_apply, Ideal.ofBits_zero_f32]

end Cert.DwIdeal.Val

end
-- ==== Proof.DwTrip.lean ====
module

public import proofs.«01_k».proof.Proof.DwTile

@[expose] public section

set_option maxRecDepth 16384

noncomputable section

/-!
One trip of the `dw` kernel's epilogue loop: what it leaves in the output's block and in the running sums.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe

section Words
variable (i : grid0.Coords) (arg5 arg6 : Memref sig .tc .vmem S2560x128 .i8) (arg9 : Memref sig .tc .vmem S2560x768 .f32) (arg12 : Memref sig .tc .vmem S2x8x128 .f32)
  (k0_h3 : k0_cond3 i = 1#1) (v21 : Elt Ideal .f32) (v34 : BitVec 32) (X_arg5 : BufTy.Contents (Elt Ideal) arg5.view.ty) (X_arg6 : BufTy.Contents (Elt Ideal) arg6.view.ty)
  (k : Fin k0_t1_loop.trips) (f_arg9 : BufTy.Contents (Elt Ideal) arg9.view.ty) (f_arg12 : BufTy.Contents (Elt Ideal) arg12.view.ty)

/-- The trip's rows of the first block of codes. -/
def ca : IVec T256 8 := View.readAt (Elt Ideal) arg5.view (Rect.unit (s := S2560x128) (k0_off1 k) S256x128.size (k0_off1_inb i k k0_h3)).toLoadRect X_arg5

/-- The trip's rows of the second block of codes. -/
def cb : IVec T256 8 := View.readAt (Elt Ideal) arg6.view (Rect.unit (s := S2560x128) (k0_off1 k) S256x128.size (k0_off1_inb i k k0_h3)).toLoadRect X_arg6

/-- The trip's tiles of the output, as it finds them. -/
def ot : ℕ → FVec Ideal T256 .f32
  | 0 => View.readAt (Elt Ideal) arg9.view (Rect.unit (s := S2560x768) (k0_off2 k) S256x128.size (k0_off2_inb i k k0_h3)).toLoadRect f_arg9
  | 1 => View.readAt (Elt Ideal) arg9.view (Rect.unit (s := S2560x768) (k0_off3 k) S256x128.size (k0_off3_inb i k k0_h3)).toLoadRect f_arg9
  | 2 => View.readAt (Elt Ideal) arg9.view (Rect.unit (s := S2560x768) (k0_off4 k) S256x128.size (k0_off4_inb i k k0_h3)).toLoadRect f_arg9
  | 3 => View.readAt (Elt Ideal) arg9.view (Rect.unit (s := S2560x768) (k0_off5 k) S256x128.size (k0_off5_inb i k k0_h3)).toLoadRect f_arg9
  | 4 => View.readAt (Elt Ideal) arg9.view (Rect.unit (s := S2560x768) (k0_off6 k) S256x128.size (k0_off6_inb i k k0_h3)).toLoadRect f_arg9
  | _ => View.readAt (Elt Ideal) arg9.view (Rect.unit (s := S2560x768) (k0_off7 k) S256x128.size (k0_off7_inb i k k0_h3)).toLoadRect f_arg9

/-- The trip's tiles of fields. -/
def ft (t : ℕ) : IVec T256 32 := ftile v34 (BitVec.ofNat 32 (32 * t)) (ca i arg5 k0_h3 X_arg5 k) (cb i arg6 k0_h3 X_arg6 k)

/-- Plane 0 of the sums after `t` tiles. -/
def pl0 : ℕ → FVec Ideal S1x8x128 .f32
  | 0 => View.readAt (Elt Ideal) arg12.view (Rect.unit (s := S2x8x128) ![0, 0, 0] S1x8x128.size inb_S2x8x128_S1x8x128_0_0_0).toLoadRect f_arg12
  | t + 1 => acc 1#32 v21 (ft i arg5 arg6 k0_h3 v34 X_arg5 X_arg6 k t) (ot i arg9 k0_h3 k f_arg9 t) (pl0 t)

/-- Plane 1 of the sums after `t` tiles. -/
def pl1 : ℕ → FVec Ideal S1x8x128 .f32
  | 0 => View.readAt (Elt Ideal) arg12.view (Rect.unit (s := S2x8x128) ![1, 0, 0] S1x8x128.size inb_S2x8x128_S1x8x128_1_0_0).toLoadRect f_arg12
  | t + 1 => acc 2#32 v21 (ft i arg5 arg6 k0_h3 v34 X_arg5 X_arg6 k t) (ot i arg9 k0_h3 k f_arg9 t) (pl1 t)

/-- A load of plane 0 that skips the last store reads the store before it. -/
theorem load0 (w' : (Rect.unit (s := S2x8x128) ![1, 0, 0] S1x8x128.size inb_S2x8x128_S1x8x128_1_0_0).shape.Idx → Elt Ideal .f32)
    (w : (Rect.unit (s := S2x8x128) ![0, 0, 0] S1x8x128.size inb_S2x8x128_S1x8x128_0_0_0).shape.Idx → Elt Ideal .f32) (L : List (View.Piece (Elt Ideal) S2x8x128 .f32)) :
    arg12.view.readCov (⟨_, w'⟩ :: ⟨_, w⟩ :: L) (Rect.unit (s := S2x8x128) ![0, 0, 0] S1x8x128.size inb_S2x8x128_S1x8x128_0_0_0).toLoadRect = w :=
  (View.readCov_skip _ _ _ _ _ (by decide)).trans (View.readCov_cons_toLoadRect _ _ _ _)

/-- A load of plane 1 likewise. -/
theorem load1 (w' : (Rect.unit (s := S2x8x128) ![0, 0, 0] S1x8x128.size inb_S2x8x128_S1x8x128_0_0_0).shape.Idx → Elt Ideal .f32)
    (w : (Rect.unit (s := S2x8x128) ![1, 0, 0] S1x8x128.size inb_S2x8x128_S1x8x128_1_0_0).shape.Idx → Elt Ideal .f32) (L : List (View.Piece (Elt Ideal) S2x8x128 .f32)) :
    arg12.view.readCov (⟨_, w'⟩ :: ⟨_, w⟩ :: L) (Rect.unit (s := S2x8x128) ![1, 0, 0] S1x8x128.size inb_S2x8x128_S1x8x128_1_0_0).toLoadRect = w :=
  (View.readCov_skip _ _ _ _ _ (by decide)).trans (View.readCov_cons_toLoadRect _ _ _ _)

/-- Plane 0 as tile 1 finds it. -/
theorem v177_eq : trip_k0_t1.sl.v177 i arg5 arg6 arg9 arg12 k0_h3 v21 v34 X_arg5 X_arg6 k f_arg9 f_arg12 = pl0 i arg5 arg6 arg9 arg12 k0_h3 v21 v34 X_arg5 X_arg6 k f_arg9 f_arg12 1 :=
  load0 arg12 _ _ _

/-- Plane 1 as tile 1 finds it. -/
theorem v187_eq : trip_k0_t1.sl.v187 i arg5 arg6 arg9 arg12 k0_h3 v21 v34 X_arg5 X_arg6 k f_arg9 f_arg12 = pl1 i arg5 arg6 arg9 arg12 k0_h3 v21 v34 X_arg5 X_arg6 k f_arg9 f_arg12 1 :=
  load1 arg12 _ _ _

/-- Plane 0 as tile 2 finds it. -/
theorem v253_eq : trip_k0_t1.sl.v253 i arg5 arg6 arg9 arg12 k0_h3 v21 v34 X_arg5 X_arg6 k f_arg9 f_arg12 = pl0 i arg5 arg6 arg9 arg12 k0_h3 v21 v34 X_arg5 X_arg6 k f_arg9 f_arg12 2 :=
  (load0 arg12 _ _ _).trans (congrArg (acc 1#32 v21 (ft i arg5 arg6 k0_h3 v34 X_arg5 X_arg6 k 1) (ot i arg9 k0_h3 k f_arg9 1)) (v177_eq i arg5 arg6 arg9 arg12 k0_h3 v21 v34 X_arg5 X_arg6 k f_arg9 f_arg12))

/-- Plane 1 as tile 2 finds it. -/
theorem v263_eq : trip_k0_t1.sl.v263 i arg5 arg6 arg9 arg12 k0_h3 v21 v34 X_arg5 X_arg6 k f_arg9 f_arg12 = pl1 i arg5 arg6 arg9 arg12 k0_h3 v21 v34 X_arg5 X_arg6 k f_arg9 f_arg12 2 :=
  (load1 arg12 _ _ _).trans (congrArg (acc 2#32 v21 (ft i arg5 arg6 k0_h3 v34 X_arg5 X_arg6 k 1) (ot i arg9 k0_h3 k f_arg9 1)) (v187_eq i arg5 arg6 arg9 arg12 k0_h3 v21 v34 X_arg5 X_arg6 k f_arg9 f_arg12))

/-- Plane 0 as tile 3 finds it. -/
theorem v329_eq : trip_k0_t1.sl.v329 i arg5 arg6 arg9 arg12 k0_h3 v21 v34 X_arg5 X_arg6 k f_arg9 f_arg12 = pl0 i arg5 arg6 arg9 arg12 k0_h3 v21 v34 X_arg5 X_arg6 k f_arg9 f_arg12 3 :=
  (load0 arg12 _ _ _).trans (congrArg (acc 1#32 v21 (ft i arg5 arg6 k0_h3 v34 X_arg5 X_arg6 k 2) (ot i arg9 k0_h3 k f_arg9 2)) (v253_eq i arg5 arg6 arg9 arg12 k0_h3 v21 v34 X_arg5 X_arg6 k f_arg9 f_arg12))

/-- Plane 1 as tile 3 finds it. -/
theorem v339_eq : trip_k0_t1.sl.v339 i arg5 arg6 arg9 arg12 k0_h3 v21 v34 X_arg5 X_arg6 k f_arg9 f_arg12 = pl1 i arg5 arg6 arg9 arg12 k0_h3 v21 v34 X_arg5 X_arg6 k f_arg9 f_arg12 3 :=
  (load1 arg12 _ _ _).trans (congrArg (acc 2#32 v21 (ft i arg5 arg6 k0_h3 v34 X_arg5 X_arg6 k 2) (ot i arg9 k0_h3 k f_arg9 2)) (v263_eq i arg5 arg6 arg9 arg12 k0_h3 v21 v34 X_arg5 X_arg6 k f_arg9 f_arg12))

/-- Plane 0 as tile 4 finds it. -/
theorem v405_eq : trip_k0_t1.sl.v405 i arg5 arg6 arg9 arg12 k0_h3 v21 v34 X_arg5 X_arg6 k f_arg9 f_arg12 = pl0 i arg5 arg6 arg9 arg12 k0_h3 v21 v34 X_arg5 X_arg6 k f_arg9 f_arg12 4 :=
  (load0 arg12 _ _ _).trans (congrArg (acc 1#32 v21 (ft i arg5 arg6 k0_h3 v34 X_arg5 X_arg6 k 3) (ot i arg9 k0_h3 k f_arg9 3)) (v329_eq i arg5 arg6 arg9 arg12 k0_h3 v21 v34 X_arg5 X_arg6 k f_arg9 f_arg12))

/-- Plane 1 as tile 4 finds it. -/
theorem v415_eq : trip_k0_t1.sl.v415 i arg5 arg6 arg9 arg12 k0_h3 v21 v34 X_arg5 X_arg6 k f_arg9 f_arg12 = pl1 i arg5 arg6 arg9 arg12 k0_h3 v21 v34 X_arg5 X_arg6 k f_arg9 f_arg12 4 :=
  (load1 arg12 _ _ _).trans (congrArg (acc 2#32 v21 (ft i arg5 arg6 k0_h3 v34 X_arg5 X_arg6 k 3) (ot i arg9 k0_h3 k f_arg9 3)) (v339_eq i arg5 arg6 arg9 arg12 k0_h3 v21 v34 X_arg5 X_arg6 k f_arg9 f_arg12))

/-- Plane 0 as tile 5 finds it. -/
theorem v481_eq : trip_k0_t1.sl.v481 i arg5 arg6 arg9 arg12 k0_h3 v21 v34 X_arg5 X_arg6 k f_arg9 f_arg12 = pl0 i arg5 arg6 arg9 arg12 k0_h3 v21 v34 X_arg5 X_arg6 k f_arg9 f_arg12 5 :=
  (load0 arg12 _ _ _).trans (congrArg (acc 1#32 v21 (ft i arg5 arg6 k0_h3 v34 X_arg5 X_arg6 k 4) (ot i arg9 k0_h3 k f_arg9 4)) (v405_eq i arg5 arg6 arg9 arg12 k0_h3 v21 v34 X_arg5 X_arg6 k f_arg9 f_arg12))

/-- Plane 1 as tile 5 finds it. -/
theorem v491_eq : trip_k0_t1.sl.v491 i arg5 arg6 arg9 arg12 k0_h3 v21 v34 X_arg5 X_arg6 k f_arg9 f_arg12 = pl1 i arg5 arg6 arg9 arg12 k0_h3 v21 v34 X_arg5 X_arg6 k f_arg9 f_arg12 5 :=
  (load1 arg12 _ _ _).trans (congrArg (acc 2#32 v21 (ft i arg5 arg6 k0_h3 v34 X_arg5 X_arg6 k 4) (ot i arg9 k0_h3 k f_arg9 4)) (v415_eq i arg5 arg6 arg9 arg12 k0_h3 v21 v34 X_arg5 X_arg6 k f_arg9 f_arg12))

end Words

/-- The sums after a trip, in each plane. -/
theorem trip_sums (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (k : Fin k0_t1_loop.trips) (f_arg9 : BufTy.Contents (Elt Ideal) arg9.view.ty) (f_arg12 : BufTy.Contents (Elt Ideal) arg12.view.ty) (s : Fin 8) (l : Fin 128) :
    arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12).2) (ix3 0 s l) = pl0 i arg5 arg6 arg9 arg12 k0_h3 v21 v34 X_arg5 X_arg6 k f_arg9 f_arg12 6 (ix3 0 s l)
    ∧ arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12).2) (ix3 1 s l) = pl1 i arg5 arg6 arg9 arg12 k0_h3 v21 v34 X_arg5 X_arg6 k f_arg9 f_arg12 6 (ix3 0 s l) := by
  unfold tripL_k0_t1 trip_k0_t1
  dsimp only
  constructor
  · rw [View.read_writes_cons_miss_of_axis _ _ _ _ _ (0 : Fin 3) 1 1 rfl rfl rfl (by left; show 0 < 1; omega)]
    refine (View.read_writes_cons_hit_of_coords _ _ _ _ _ (ix3 0 s l) _ (fun a => ?_)).trans ?_
    · match a with
      | ⟨0, _⟩ => rfl
      | ⟨1, _⟩ => show s.val = 0 + 1 * s.val; omega
      | ⟨2, _⟩ => show l.val = 0 + 1 * l.val; omega
    · exact congrFun (congrArg (acc 1#32 v21 (ft i arg5 arg6 k0_h3 v34 X_arg5 X_arg6 k 5) (ot i arg9 k0_h3 k f_arg9 5)) (v481_eq i arg5 arg6 arg9 arg12 k0_h3 v21 v34 X_arg5 X_arg6 k f_arg9 f_arg12)) (ix3 0 s l)
  · refine (View.read_writes_cons_hit_of_coords _ _ _ _ _ (ix3 0 s l) _ (fun a => ?_)).trans ?_
    · match a with
      | ⟨0, _⟩ => rfl
      | ⟨1, _⟩ => show s.val = 0 + 1 * s.val; omega
      | ⟨2, _⟩ => show l.val = 0 + 1 * l.val; omega
    · exact congrFun (congrArg (acc 2#32 v21 (ft i arg5 arg6 k0_h3 v34 X_arg5 X_arg6 k 5) (ot i arg9 k0_h3 k f_arg9 5)) (v491_eq i arg5 arg6 arg9 arg12 k0_h3 v21 v34 X_arg5 X_arg6 k f_arg9 f_arg12)) (ix3 0 s l)

end Cert.DwIdeal.Val

end
-- ==== Proof.DwLoop.lean ====
module

public import proofs.«01_k».proof.Proof.DwTrip

@[expose] public section

set_option maxRecDepth 16384

noncomputable section

/-!
The `dw` kernel's epilogue loop: what its ten trips leave in the output's block and in the running sums.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe

/-- The loop makes ten trips. -/
theorem trips_eq : k0_t1_loop.trips = 10 := by decide

/-- The region field of an element of the block, the two blocks of codes starting `64 * e` bytes before it. -/
def fldAt (e : ℕ) (x3 x4 : S2560x128.Idx → BitVec 8) (y : S2560x768.Idx) : BitVec 32 :=
  fld (byteAt x3 x4 (y 0) (64 * e + (y 1).val / 4)) ((y 1).val % 4)

/-- The block's ternary gradients. -/
def ternAll (e : ℕ) (sc wp wn : EReal) (x3 x4 : S2560x128.Idx → BitVec 8) (o : S2560x768.Idx → EReal) : S2560x768.Idx → EReal := fun y =>
  ternv wp wn (fldAt e x3 x4 y) (o y * sc)

/-- The block's scaled gradients where the field is `p`, zero elsewhere. -/
def hit (e : ℕ) (p : BitVec 32) (sc : EReal) (x3 x4 : S2560x128.Idx → BitVec 8) (o : S2560x768.Idx → EReal) : S2560x768.Idx → EReal := fun y =>
  if fldAt e x3 x4 y = p then o y * sc else 0

/-- A block's element, its row and column reduced into range. -/
def cell (h : S2560x768.Idx → EReal) (r c : ℕ) : EReal := h (ix2 ⟨r % 2560, Nat.mod_lt _ (by decide)⟩ ⟨c % 768, Nat.mod_lt _ (by decide)⟩)

/-- What row block `k` adds to a sums element. -/
def rowSum (h : S2560x768.Idx → EReal) (k : ℕ) (s : Fin 8) (l : Fin 128) : EReal :=
  ∑ t : Fin 6, ∑ q : Fin 32, cell h (256 * k + (8 * q.val + s.val)) (128 * t.val + l.val)

section Words
variable (i : grid0.Coords) (arg5 arg6 : Memref sig .tc .vmem S2560x128 .i8) (arg9 : Memref sig .tc .vmem S2560x768 .f32) (arg12 : Memref sig .tc .vmem S2x8x128 .f32)
  (k0_h3 : k0_cond3 i = 1#1) (v21 : Elt Ideal .f32) (v34 : BitVec 32) (X_arg5 : BufTy.Contents (Elt Ideal) arg5.view.ty) (X_arg6 : BufTy.Contents (Elt Ideal) arg6.view.ty)
  (k : Fin k0_t1_loop.trips) (f_arg9 : BufTy.Contents (Elt Ideal) arg9.view.ty) (f_arg12 : BufTy.Contents (Elt Ideal) arg12.view.ty)

theorem k_lt : k.val < 10 := lt_of_lt_of_eq k.isLt trips_eq

/-- A 256-row tile loaded from a buffer of 128 lanes. -/
theorem codes_apply (a : Memref sig .tc .vmem S2560x128 .i8) (X : BufTy.Contents (Elt Ideal) a.view.ty) (r : Fin 256) (l : Fin 128) (h : 256 * k.val + r.val < 2560) :
    View.readAt (Elt Ideal) a.view (Rect.unit (s := S2560x128) (k0_off1 k) S256x128.size (k0_off1_inb i k k0_h3)).toLoadRect X (ix2 r l)
      = a.view.read (Elt Ideal) X (ix2 ⟨256 * k.val + r.val, h⟩ l) := by
  have e := k0_off1_eq k
  refine congrArg (a.view.read (Elt Ideal) X) (funext fun x => Fin.ext ?_)
  match x with
  | ⟨0, _⟩ => show k0_off1 k 0 + 1 * r.val = 256 * k.val + r.val; rw [e]; show 256 * k.val + 1 * r.val = _; omega
  | ⟨1, _⟩ => show k0_off1 k 1 + 1 * l.val = l.val; rw [e]; show 0 + 1 * l.val = _; omega

/-- A tile's column start. -/
theorem tile_apply (off : Fin 2 → ℕ) (t : ℕ) (e : off = ![256 * k.val, 128 * t]) (inb : ∀ a, off a + S256x128.size a ≤ S2560x768.size a) (r : Fin 256) (l : Fin 128)
    (h : 256 * k.val + r.val < 2560) (h' : 128 * t + l.val < 768) :
    View.readAt (Elt Ideal) arg9.view (Rect.unit (s := S2560x768) off S256x128.size inb).toLoadRect f_arg9 (ix2 r l)
      = arg9.view.read (Elt Ideal) f_arg9 (ix2 ⟨256 * k.val + r.val, h⟩ ⟨128 * t + l.val, h'⟩) := by
  subst e
  refine congrArg (arg9.view.read (Elt Ideal) f_arg9) (funext fun x => Fin.ext ?_)
  match x with
  | ⟨0, _⟩ => show 256 * k.val + 1 * r.val = 256 * k.val + r.val; omega
  | ⟨1, _⟩ => show 128 * t + 1 * l.val = 128 * t + l.val; omega

/-- A tile as the trip finds it, at an element. -/
theorem ot_apply (t : Fin 6) (r : Fin 256) (l : Fin 128) (h : 256 * k.val + r.val < 2560) (h' : 128 * t.val + l.val < 768) :
    ot i arg9 k0_h3 k f_arg9 t.val (ix2 r l) = arg9.view.read (Elt Ideal) f_arg9 (ix2 ⟨256 * k.val + r.val, h⟩ ⟨128 * t.val + l.val, h'⟩) := by
  match t with
  | ⟨0, _⟩ => exact tile_apply arg9 k f_arg9 _ 0 (k0_off2_eq k) (k0_off2_inb i k k0_h3) r l h h'
  | ⟨1, _⟩ => exact tile_apply arg9 k f_arg9 _ 1 (k0_off3_eq k) (k0_off3_inb i k k0_h3) r l h h'
  | ⟨2, _⟩ => exact tile_apply arg9 k f_arg9 _ 2 (k0_off4_eq k) (k0_off4_inb i k k0_h3) r l h h'
  | ⟨3, _⟩ => exact tile_apply arg9 k f_arg9 _ 3 (k0_off5_eq k) (k0_off5_inb i k k0_h3) r l h h'
  | ⟨4, _⟩ => exact tile_apply arg9 k f_arg9 _ 4 (k0_off6_eq k) (k0_off6_inb i k k0_h3) r l h h'
  | ⟨5, _⟩ => exact tile_apply arg9 k f_arg9 _ 5 (k0_off7_eq k) (k0_off7_inb i k k0_h3) r l h h'

/-- A tile's fields at an element. -/
theorem ft_apply (e : Fin 2) (hv : v34 = BitVec.ofNat 32 (64 * e.val)) (t : Fin 6) (r : Fin 256) (l : Fin 128) (h : 256 * k.val + r.val < 2560) (h' : 128 * t.val + l.val < 768) :
    ft i arg5 arg6 k0_h3 v34 X_arg5 X_arg6 k t.val (ix2 r l) = fldAt e.val (arg5.view.read (Elt Ideal) X_arg5) (arg6.view.read (Elt Ideal) X_arg6) (ix2 ⟨256 * k.val + r.val, h⟩ ⟨128 * t.val + l.val, h'⟩) := by
  subst hv
  have hk := k_lt k
  unfold ft fldAt
  rw [ftile_apply e t k.val (arg5.view.read (Elt Ideal) X_arg5) (arg6.view.read (Elt Ideal) X_arg6) (ca i arg5 k0_h3 X_arg5 k) (cb i arg6 k0_h3 X_arg6 k) (by omega) (fun r l => codes_apply i k0_h3 k arg5 X_arg5 r l (by omega)) (fun r l => codes_apply i k0_h3 k arg6 X_arg6 r l (by omega))]
  have hm : (128 * t.val + l.val) % 4 = l.val % 4 := by omega
  exact congrArg (fld (byteAt (arg5.view.read (Elt Ideal) X_arg5) (arg6.view.read (Elt Ideal) X_arg6) ⟨256 * k.val + r.val, h⟩ (64 * e.val + (128 * t.val + l.val) / 4))) hm.symm

/-- A tile's term of a sum is a cell of the block. -/
theorem term_eq (e : Fin 2) (hv : v34 = BitVec.ofNat 32 (64 * e.val)) (p : BitVec 32) (t : Fin 6) (q : Fin 32) (s : Fin 8) (l : Fin 128) :
    (if ft i arg5 arg6 k0_h3 v34 X_arg5 X_arg6 k t.val (ix2 ⟨8 * q.val + s.val, by omega⟩ l) = p then (ot i arg9 k0_h3 k f_arg9 t.val (ix2 ⟨8 * q.val + s.val, by omega⟩ l) : EReal) * v21 else 0)
      = cell (hit e.val p v21 (arg5.view.read (Elt Ideal) X_arg5) (arg6.view.read (Elt Ideal) X_arg6) (arg9.view.read (Elt Ideal) f_arg9)) (256 * k.val + (8 * q.val + s.val)) (128 * t.val + l.val) := by
  have hk := k_lt k
  have hq := q.isLt
  have hs := s.isLt
  have ht := t.isLt
  have hl := l.isLt
  rw [ft_apply i arg5 arg6 k0_h3 v34 X_arg5 X_arg6 k e hv t _ l (by show 256 * k.val + (8 * q.val + s.val) < 2560; omega) (by omega),
    ot_apply i arg9 k0_h3 k f_arg9 t _ l (by show 256 * k.val + (8 * q.val + s.val) < 2560; omega) (by omega)]
  have hr : (⟨(256 * k.val + (8 * q.val + s.val)) % 2560, Nat.mod_lt _ (by decide)⟩ : Fin 2560) = ⟨256 * k.val + (8 * q.val + s.val), by omega⟩ := Fin.ext (Nat.mod_eq_of_lt (by omega))
  have hc : (⟨(128 * t.val + l.val) % 768, Nat.mod_lt _ (by decide)⟩ : Fin 768) = ⟨128 * t.val + l.val, by omega⟩ := Fin.ext (Nat.mod_eq_of_lt (by omega))
  unfold cell
  rw [hr, hc]
  rfl

/-- Plane 0 of the sums after `t` tiles. -/
theorem pl0_apply (e : Fin 2) (hv : v34 = BitVec.ofNat 32 (64 * e.val)) (s : Fin 8) (l : Fin 128) (t : ℕ) (ht : t ≤ 6) :
    (pl0 i arg5 arg6 arg9 arg12 k0_h3 v21 v34 X_arg5 X_arg6 k f_arg9 f_arg12 t (ix3 0 s l) : EReal) = arg12.view.read (Elt Ideal) f_arg12 (ix3 0 s l)
      + ∑ t' ∈ Finset.range t, ∑ q : Fin 32, cell (hit e.val 1#32 v21 (arg5.view.read (Elt Ideal) X_arg5) (arg6.view.read (Elt Ideal) X_arg6) (arg9.view.read (Elt Ideal) f_arg9)) (256 * k.val + (8 * q.val + s.val)) (128 * t' + l.val) := by
  induction t with
  | zero =>
    rw [Finset.range_zero, Finset.sum_empty, add_zero]
    refine congrArg (arg12.view.read (Elt Ideal) f_arg12) (funext fun x => Fin.ext ?_)
    match x with
    | ⟨0, _⟩ => rfl
    | ⟨1, _⟩ => show 0 + 1 * s.val = s.val; omega
    | ⟨2, _⟩ => show 0 + 1 * l.val = l.val; omega
  | succ t ih =>
    rw [Finset.sum_range_succ, ← add_assoc, ← ih (by omega)]
    refine (acc_apply 1#32 v21 _ _ _ s l).trans (congrArg (fun b : EReal => _ + b) (Finset.sum_congr rfl fun q _ => ?_))
    exact term_eq i arg5 arg6 arg9 k0_h3 v21 v34 X_arg5 X_arg6 k f_arg9 e hv 1#32 ⟨t, by omega⟩ q s l

/-- Plane 1 of the sums after `t` tiles. -/
theorem pl1_apply (e : Fin 2) (hv : v34 = BitVec.ofNat 32 (64 * e.val)) (s : Fin 8) (l : Fin 128) (t : ℕ) (ht : t ≤ 6) :
    (pl1 i arg5 arg6 arg9 arg12 k0_h3 v21 v34 X_arg5 X_arg6 k f_arg9 f_arg12 t (ix3 0 s l) : EReal) = arg12.view.read (Elt Ideal) f_arg12 (ix3 1 s l)
      + ∑ t' ∈ Finset.range t, ∑ q : Fin 32, cell (hit e.val 2#32 v21 (arg5.view.read (Elt Ideal) X_arg5) (arg6.view.read (Elt Ideal) X_arg6) (arg9.view.read (Elt Ideal) f_arg9)) (256 * k.val + (8 * q.val + s.val)) (128 * t' + l.val) := by
  induction t with
  | zero =>
    rw [Finset.range_zero, Finset.sum_empty, add_zero]
    refine congrArg (arg12.view.read (Elt Ideal) f_arg12) (funext fun x => Fin.ext ?_)
    match x with
    | ⟨0, _⟩ => rfl
    | ⟨1, _⟩ => show 0 + 1 * s.val = s.val; omega
    | ⟨2, _⟩ => show 0 + 1 * l.val = l.val; omega
  | succ t ih =>
    rw [Finset.sum_range_succ, ← add_assoc, ← ih (by omega)]
    refine (acc_apply 2#32 v21 _ _ _ s l).trans (congrArg (fun b : EReal => _ + b) (Finset.sum_congr rfl fun q _ => ?_))
    exact term_eq i arg5 arg6 arg9 k0_h3 v21 v34 X_arg5 X_arg6 k f_arg9 e hv 2#32 ⟨t, by omega⟩ q s l

/-- A tile's store is a tile of the block's ternary gradients. -/
theorem store_eq (v22 v23 : Elt Ideal .f32) (e : Fin 2) (hv : v34 = BitVec.ofNat 32 (64 * e.val)) (t : Fin 6) (off : Fin 2 → ℕ) (he : off = ![256 * k.val, 128 * t.val])
    (inb : ∀ a, off a + S256x128.size a ≤ S2560x768.size a) (x : S256x128.Idx) :
    (otile v21 v22 v23 (ft i arg5 arg6 k0_h3 v34 X_arg5 X_arg6 k t.val) (ot i arg9 k0_h3 k f_arg9 t.val) x : EReal)
      = ternAll e.val v21 v22 v23 (arg5.view.read (Elt Ideal) X_arg5) (arg6.view.read (Elt Ideal) X_arg6) (arg9.view.read (Elt Ideal) f_arg9) ((Rect.unit (s := S2560x768) off S256x128.size inb).emb x) := by
  subst he
  obtain ⟨r, l, rfl⟩ : ∃ (r : Fin 256) (l : Fin 128), x = ix2 r l := ⟨_, _, ValueIdx.eq_ix2 x⟩
  have hk := k_lt k
  have ht := t.isLt
  have hy : (Rect.unit (s := S2560x768) ![256 * k.val, 128 * t.val] S256x128.size inb).emb (ix2 r l) = ix2 (⟨256 * k.val + r.val, by omega⟩ : Fin 2560) (⟨128 * t.val + l.val, by omega⟩ : Fin 768) := by
    funext a
    match a with
    | ⟨0, _⟩ => exact Fin.ext (by show 256 * k.val + 1 * r.val = 256 * k.val + r.val; omega)
    | ⟨1, _⟩ => exact Fin.ext (by show 128 * t.val + 1 * l.val = 128 * t.val + l.val; omega)
  rw [otile_apply, hy, ft_apply i arg5 arg6 k0_h3 v34 X_arg5 X_arg6 k e hv t r l (by omega) (by omega), ot_apply i arg9 k0_h3 k f_arg9 t r l (by omega) (by omega)]
  rfl

end Words

set_option maxHeartbeats 1000000 in
/-- A trip's stores are tiles of the block's ternary gradients. -/
theorem trip_pieces (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (k : Fin k0_t1_loop.trips) (f_arg9 : BufTy.Contents (Elt Ideal) arg9.view.ty) (f_arg12 : BufTy.Contents (Elt Ideal) arg12.view.ty) (e : Fin 2) (hv : v34 = BitVec.ofNat 32 (64 * e.val)) :
    View.PiecesOf (Val := Elt Ideal) (e := .f32) (ternAll e.val v21 v22 v23 (arg5.view.read (Elt Ideal) X_arg5) (arg6.view.read (Elt Ideal) X_arg6) (arg9.view.read (Elt Ideal) f_arg9)) (tripL_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12).1 := by
  unfold tripL_k0_t1 trip_k0_t1
  dsimp only
  refine And.intro (fun x => store_eq i arg5 arg6 arg9 k0_h3 v21 v34 X_arg5 X_arg6 k f_arg9 v22 v23 e hv 5 _ (k0_off7_eq k) (k0_off7_inb i k k0_h3) x) ?_
  refine And.intro (fun x => store_eq i arg5 arg6 arg9 k0_h3 v21 v34 X_arg5 X_arg6 k f_arg9 v22 v23 e hv 4 _ (k0_off6_eq k) (k0_off6_inb i k k0_h3) x) ?_
  refine And.intro (fun x => store_eq i arg5 arg6 arg9 k0_h3 v21 v34 X_arg5 X_arg6 k f_arg9 v22 v23 e hv 3 _ (k0_off5_eq k) (k0_off5_inb i k k0_h3) x) ?_
  refine And.intro (fun x => store_eq i arg5 arg6 arg9 k0_h3 v21 v34 X_arg5 X_arg6 k f_arg9 v22 v23 e hv 2 _ (k0_off4_eq k) (k0_off4_inb i k k0_h3) x) ?_
  refine And.intro (fun x => store_eq i arg5 arg6 arg9 k0_h3 v21 v34 X_arg5 X_arg6 k f_arg9 v22 v23 e hv 1 _ (k0_off3_eq k) (k0_off3_inb i k k0_h3) x) ?_
  refine And.intro (fun x => store_eq i arg5 arg6 arg9 k0_h3 v21 v34 X_arg5 X_arg6 k f_arg9 v22 v23 e hv 0 _ (k0_off2_eq k) (k0_off2_inb i k k0_h3) x) ?_
  exact trivial

/-- The elements a rectangle of a trip holds. -/
theorem mem_tile (off : Fin 2 → ℕ) (k t : ℕ) (he : off = ![256 * k, 128 * t]) (inb : ∀ a, off a + S256x128.size a ≤ S2560x768.size a) (y : S2560x768.Idx) :
    y ∈ (Rect.unit (s := S2560x768) off S256x128.size inb).set ↔ (256 * k ≤ (y 0).val ∧ (y 0).val < 256 * k + 256) ∧ 128 * t ≤ (y 1).val ∧ (y 1).val < 128 * t + 128 := by
  subst he
  refine Iff.trans (Rect.unit (s := S2560x768) ![256 * k, 128 * t] S256x128.size inb).mem_set ?_
  constructor
  · intro h
    obtain ⟨a, ha, ha'⟩ := h 0
    obtain ⟨b, hb, hb'⟩ := h 1
    have ha1 : a < 256 := ha
    have hb1 : b < 128 := hb
    have ha2 : (y 0).val = 256 * k + 1 * a := ha'
    have hb2 : (y 1).val = 128 * t + 1 * b := hb'
    omega
  · intro ⟨⟨h0, h1⟩, h2, h3⟩ a
    match a with
    | ⟨0, _⟩ => exact ⟨(y 0).val - 256 * k, by show _ < 256; omega, by show (y 0).val = 256 * k + 1 * ((y 0).val - 256 * k); omega⟩
    | ⟨1, _⟩ => exact ⟨(y 1).val - 128 * t, by show _ < 128; omega, by show (y 1).val = 128 * t + 1 * ((y 1).val - 128 * t); omega⟩

/-- A trip writes exactly its 256 rows. -/
theorem trip_cover (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (k : Fin k0_t1_loop.trips) (f_arg9 : BufTy.Contents (Elt Ideal) arg9.view.ty) (f_arg12 : BufTy.Contents (Elt Ideal) arg12.view.ty) (y : S2560x768.Idx) :
    (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12).1, y ∈ p.1.set) ↔ (256 * k.val ≤ (y 0).val ∧ (y 0).val < 256 * k.val + 256) := by
  unfold tripL_k0_t1 trip_k0_t1
  dsimp only
  simp only [List.exists_mem_cons_iff, List.not_mem_nil, false_and, exists_false, or_false]
  rw [mem_tile _ k.val 5 (k0_off7_eq k) (k0_off7_inb i k k0_h3) y, mem_tile _ k.val 4 (k0_off6_eq k) (k0_off6_inb i k k0_h3) y, mem_tile _ k.val 3 (k0_off5_eq k) (k0_off5_inb i k k0_h3) y, mem_tile _ k.val 2 (k0_off4_eq k) (k0_off4_inb i k k0_h3) y, mem_tile _ k.val 1 (k0_off3_eq k) (k0_off3_inb i k k0_h3) y, mem_tile _ k.val 0 (k0_off2_eq k) (k0_off2_inb i k k0_h3) y]
  have hy : (y 1).val < 768 := (y 1).isLt
  omega

/-- The output's block after a trip. -/
theorem trip_out (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (k : Fin k0_t1_loop.trips) (f_arg9 : BufTy.Contents (Elt Ideal) arg9.view.ty) (f_arg12 : BufTy.Contents (Elt Ideal) arg12.view.ty) (e : Fin 2) (hv : v34 = BitVec.ofNat 32 (64 * e.val)) (y : S2560x768.Idx) :
    (arg9.view.read (Elt Ideal) (arg9.view.writes (Elt Ideal) f_arg9 (tripL_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12).1) y : EReal)
      = if 256 * k.val ≤ (y 0).val ∧ (y 0).val < 256 * k.val + 256 then ternAll e.val v21 v22 v23 (arg5.view.read (Elt Ideal) X_arg5) (arg6.view.read (Elt Ideal) X_arg6) (arg9.view.read (Elt Ideal) f_arg9) y else arg9.view.read (Elt Ideal) f_arg9 y := by
  have hc := trip_cover 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12 y
  split_ifs with h
  · exact View.read_writes_apply_of_pieces _ _ _ _ (fun p hp x => (trip_pieces 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 k f_arg9 f_arg12 e hv).mem p hp x) y (hc.mpr h)
  · exact View.read_writes_apply_of_forall_not_mem _ _ y _ (fun p hp hy => h (hc.mp ⟨p, hp, hy⟩))

/-- The output's block after `n` trips. -/
theorem pb_out (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (G_arg9 : BufTy.Contents (Elt Ideal) arg9.view.ty) (G_arg12 : BufTy.Contents (Elt Ideal) arg12.view.ty) (e : Fin 2) (hv : v34 = BitVec.ofNat 32 (64 * e.val)) (n : ℕ) (hn : n ≤ 10) (y : S2560x768.Idx) :
    (arg9.view.read (Elt Ideal) (arg9.view.writes (Elt Ideal) G_arg9 (pb_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 n).1) y : EReal)
      = if (y 0).val < 256 * n then ternAll e.val v21 v22 v23 (arg5.view.read (Elt Ideal) X_arg5) (arg6.view.read (Elt Ideal) X_arg6) (arg9.view.read (Elt Ideal) G_arg9) y else arg9.view.read (Elt Ideal) G_arg9 y := by
  induction n with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 ⟨n, lt_of_lt_of_eq (by omega : n < 10) trips_eq.symm⟩
    dsimp only at hs
    rw [hs, View.writes_append, trip_out 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 _ _ _ e hv y]
    have ih' := ih (by omega)
    dsimp only
    by_cases h1 : (y 0).val < 256 * n
    · rw [if_neg (by omega), ih', if_pos h1, if_pos (by omega)]
    · by_cases h2 : (y 0).val < 256 * n + 256
      · rw [if_pos ⟨by omega, h2⟩, if_pos (by omega)]
        unfold ternAll
        rw [ih', if_neg h1]
      · rw [if_neg (by omega), ih', if_neg h1, if_neg (by omega)]

/-- A row block's sum depends on that block's rows alone. -/
theorem rowSum_congr (e : ℕ) (p : BitVec 32) (sc : EReal) (x3 x4 : S2560x128.Idx → BitVec 8) (o o' : S2560x768.Idx → EReal) (k : ℕ) (hk : k < 10)
    (h : ∀ y : S2560x768.Idx, 256 * k ≤ (y 0).val → o y = o' y) (s : Fin 8) (l : Fin 128) :
    rowSum (hit e p sc x3 x4 o) k s l = rowSum (hit e p sc x3 x4 o') k s l := by
  unfold rowSum cell hit
  refine Finset.sum_congr rfl fun t _ => Finset.sum_congr rfl fun q _ => ?_
  rw [h _ (by show 256 * k ≤ (256 * k + (8 * q.val + s.val)) % 2560; have := q.isLt; have := s.isLt; rw [Nat.mod_eq_of_lt (by omega)]; omega)]

/-- Plane 0 of the sums after `n` trips. -/
theorem pb_sums0 (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (G_arg9 : BufTy.Contents (Elt Ideal) arg9.view.ty) (G_arg12 : BufTy.Contents (Elt Ideal) arg12.view.ty) (e : Fin 2) (hv : v34 = BitVec.ofNat 32 (64 * e.val)) (n : ℕ) (hn : n ≤ 10) (s : Fin 8) (l : Fin 128) :
    (arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 n).2) (ix3 0 s l) : EReal)
      = arg12.view.read (Elt Ideal) G_arg12 (ix3 0 s l) + ∑ k ∈ Finset.range n, rowSum (hit e.val 1#32 v21 (arg5.view.read (Elt Ideal) X_arg5) (arg6.view.read (Elt Ideal) X_arg6) (arg9.view.read (Elt Ideal) G_arg9)) k s l := by
  induction n with
  | zero => rw [Finset.range_zero, Finset.sum_empty, add_zero]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 ⟨n, lt_of_lt_of_eq (by omega : n < 10) trips_eq.symm⟩
    dsimp only at hs
    rw [hs, View.writes_append, (trip_sums 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 _ _ _ s l).1,
      pl0_apply _ _ _ _ _ _ _ _ _ _ _ _ _ e hv s l 6 (le_refl 6), ih (by omega), Finset.sum_range_succ (fun k => rowSum (hit e.val 1#32 v21 (arg5.view.read (Elt Ideal) X_arg5) (arg6.view.read (Elt Ideal) X_arg6) (arg9.view.read (Elt Ideal) G_arg9)) k s l) n, add_assoc]
    refine congrArg _ (congrArg _ ?_)
    rw [Finset.sum_range]
    refine Eq.trans ?_ (rowSum_congr e.val 1#32 v21 (arg5.view.read (Elt Ideal) X_arg5) (arg6.view.read (Elt Ideal) X_arg6) (arg9.view.read (Elt Ideal) (arg9.view.writes (Elt Ideal) G_arg9 (pb_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 n).1)) (arg9.view.read (Elt Ideal) G_arg9) n (by omega) (fun y hy => ?_) s l)
    · exact rfl
    · rw [pb_out 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 e hv n (by omega) y, if_neg (by omega)]

/-- Plane 1 of the sums after `n` trips. -/
theorem pb_sums1 (𝒱 : Variants) (c : Dev nD) (bd : Option 𝒱.V) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole) (k0_h3 : k0_cond3 i = 1#1) (v21 : Elt Ideal .f32) (v22 : Elt Ideal .f32) (v23 : Elt Ideal .f32) (v34 : BitVec 32) (X_arg5 : BufTy.Contents (Elt Ideal) arg5.view.ty) (X_arg6 : BufTy.Contents (Elt Ideal) arg6.view.ty) (G_arg9 : BufTy.Contents (Elt Ideal) arg9.view.ty) (G_arg12 : BufTy.Contents (Elt Ideal) arg12.view.ty) (e : Fin 2) (hv : v34 = BitVec.ofNat 32 (64 * e.val)) (n : ℕ) (hn : n ≤ 10) (s : Fin 8) (l : Fin 128) :
    (arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 n).2) (ix3 1 s l) : EReal)
      = arg12.view.read (Elt Ideal) G_arg12 (ix3 1 s l) + ∑ k ∈ Finset.range n, rowSum (hit e.val 2#32 v21 (arg5.view.read (Elt Ideal) X_arg5) (arg6.view.read (Elt Ideal) X_arg6) (arg9.view.read (Elt Ideal) G_arg9)) k s l := by
  induction n with
  | zero => rw [Finset.range_zero, Finset.sum_empty, add_zero]; rfl
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 ⟨n, lt_of_lt_of_eq (by omega : n < 10) trips_eq.symm⟩
    dsimp only at hs
    rw [hs, View.writes_append, (trip_sums 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 _ _ _ s l).2,
      pl1_apply _ _ _ _ _ _ _ _ _ _ _ _ _ e hv s l 6 (le_refl 6), ih (by omega), Finset.sum_range_succ (fun k => rowSum (hit e.val 2#32 v21 (arg5.view.read (Elt Ideal) X_arg5) (arg6.view.read (Elt Ideal) X_arg6) (arg9.view.read (Elt Ideal) G_arg9)) k s l) n, add_assoc]
    refine congrArg _ (congrArg _ ?_)
    rw [Finset.sum_range]
    refine Eq.trans ?_ (rowSum_congr e.val 2#32 v21 (arg5.view.read (Elt Ideal) X_arg5) (arg6.view.read (Elt Ideal) X_arg6) (arg9.view.read (Elt Ideal) (arg9.view.writes (Elt Ideal) G_arg9 (pb_k0_t1 (F := Ideal) 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 n).1)) (arg9.view.read (Elt Ideal) G_arg9) n (by omega) (fun y hy => ?_) s l)
    · exact rfl
    · rw [pb_out 𝒱 c bd i arg2 harg2 arg3 harg3 arg4 harg4 arg5 harg5 arg6 harg6 arg7 harg7 arg8 harg8 arg9 harg9 arg10 harg10 arg11 harg11 arg12 harg12 k0_h3 v21 v22 v23 v34 X_arg5 X_arg6 G_arg9 G_arg12 e hv n (by omega) y, if_neg (by omega)]

end Cert.DwIdeal.Val

end
-- ==== Proof.DwCases.lean ====
module

public import proofs.«01_k».proof.Proof.DwIdealRunE
public import proofs.«01_k».proof.Proof.DwLoop
public import Idealize.ShloMosaic.Lib.Pipeline.CanonAppend
public import Idealize.ShloMosaic.Lib.Pipeline.ReadBack
public import Idealize.ShloMosaic.Lib.MatmulPlain
public import Idealize.ShloMosaic.Lib.Pointwise.Contract

@[expose] public section

set_option maxRecDepth 16384
set_option pp.maxSteps 6000

noncomputable section

/-!
What each kind of grid point of the `dw` kernel leaves in its output's block, in the running sums and in the two scalar
results, in closed form in what it finds.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe

/-- The only element of a one-by-one scalar, however its index is spelled. -/
theorem idx11 (y : S1x1.Idx) : y = ix2 0 0 := by
  funext a; apply Fin.ext
  match a with
  | ⟨0, _⟩ => have h : (y 0).val < 1 := (y 0).isLt; show (y 0).val = 0; omega
  | ⟨1, _⟩ => have h : (y 1).val < 1 := (y 1).isLt; show (y 1).val = 0; omega

/-- A store of the whole buffer decides what the buffer holds, whatever was stored before. -/
theorem read_cons_zero {sig : RefSig} {κ : Kind} {sp : Space} {S : Shape} {e : EltTy} (v : View sig κ sp S e) (f : v.ty.Contents (Elt Ideal)) {off : Fin S.rank → ℕ}
    (h : off = fun _ => 0) (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  subst h
  funext y
  have h := View.read_writes_cons_emb v f (Rect.unit (fun _ => 0) S.size inb) w L y
  have e : (Rect.unit (fun _ => 0) S.size inb).emb y = y := funext fun a => Fin.ext (show 0 + 1 * (y a).val = (y a).val by omega)
  rw [← h]
  exact congrArg _ e.symm

theorem z2 : (![0, 0] : Fin 2 → ℕ) = fun _ => 0 := by funext a; fin_cases a <;> rfl

theorem z3 : (![0, 0, 0] : Fin 3 → ℕ) = fun _ => 0 := by funext a; fin_cases a <;> rfl

/-- Every index lies in the whole buffer's box. -/
theorem mem_zero {S : Shape} {off : Fin S.rank → ℕ} (h : off = fun _ => 0) (inb : ∀ a, off a + S.size a ≤ S.size a) (y : S.Idx) :
    y ∈ (Rect.unit off S.size inb).set := by
  subst h
  exact Rect.mem_set_unit.mpr fun a => ⟨Nat.zero_le _, by have := (y a).isLt; omega⟩

/-- A scalar, read off the one-by-one buffer that holds it. -/
theorem sc_read (a : Memref sig .tc .smem S1x1 .f32) (ha : a.IsWhole) (x : Vec Ideal S1x1 .f32) (h : 0 < (Rect.unit (s := S1x1) ![0, 0] S1x1.size inb_S1x1_S1x1_0_0).toLoadRect.shape.numel) :
    View.readAt (Elt Ideal) a.view (Rect.unit ![0, 0] S1x1.size inb_S1x1_S1x1_0_0).toLoadRect (ha.unread x) (Shape.Idx.first h) = x (ix2 0 0) := by
  rw [View.readAt_eq_ld, ha.read_unread]; exact congrArg x (idx11 _)

/-- The offset of a column block's first byte in the first of its two blocks of codes: 0 for an even one, 64 for an odd one. -/
theorem off_eq : ∀ j : Fin 9, (Scalar.select (Scalar.andi (Scalar.xori (Scalar.cmpi .slt (Scalar.remsi (Scalar.muli (BitVec.ofNat 32 j.val) 192#32) 128#32) 0#32) 0#1) (Scalar.cmpi .ne (Scalar.remsi (Scalar.muli (BitVec.ofNat 32 j.val) 192#32) 128#32) 0#32))
    (Scalar.addi (Scalar.remsi (Scalar.muli (BitVec.ofNat 32 j.val) 192#32) 128#32) 128#32) (Scalar.remsi (Scalar.muli (BitVec.ofNat 32 j.val) 192#32) 128#32)) = BitVec.ofNat 32 (64 * (j.val % 2)) := by decide

/-- A whole plane's sum. -/
theorem plane_sum (v : FVec Ideal S1x8x128 .f32) :
    (extractAt ![0, 0, 0] (shapeCast S1x1x1 (multiReduction (F := Ideal) .add [1, 2] S1 (shapeCast S1x8x128 (shapeCast S8x128 v shapeCasts_S1x8x128_S8x128) shapeCasts_S8x128_S1x8x128) 0x00000000#32 reduces_S1x8x128_S1 (.inl rfl) rfl) shapeCasts_S1_S1x1x1) inpos_S1x1x1_p0_0_0 : EReal)
      = ∑ s : Fin 8, ∑ l : Fin 128, v (ix3 0 s l) := by
  rw [shapeCast_shapeCast]
  have hall : ∀ j : S1.Idx, (multiReduction (F := Ideal) .add [1, 2] S1 v 0x00000000#32 reduces_S1x8x128_S1 (.inl rfl) rfl j : EReal) = ∑ i : S1x8x128.Idx, v i := fun j => by
    show (∑ i ∈ Finset.univ.filter (fun i : S1x8x128.Idx => reduces_S1x8x128_S1.drop i = j), v i : EReal) = _
    rw [Finset.filter_true_of_mem fun i _ => ?_]
    funext a; apply Fin.ext
    match a with
    | ⟨0, _⟩ => have h1 : (reduces_S1x8x128_S1.drop i ⟨0, by decide⟩).val < 1 := Fin.isLt _; have h2 : (j ⟨0, by decide⟩).val < 1 := Fin.isLt _; exact (by omega : (reduces_S1x8x128_S1.drop i ⟨0, by decide⟩).val = (j ⟨0, by decide⟩).val)
  refine (hall _).trans ?_
  rw [sum_idx3, Fin.sum_univ_one]
  rfl

theorem pay6_apply (v : Vec Ideal S1x8x128 .f32) : (k0_pay6 (F := Ideal) v : EReal) = ∑ s : Fin 8, ∑ l : Fin 128, v (ix3 0 s l) := plane_sum v

theorem pay7_apply (v : Vec Ideal S1x8x128 .f32) : (k0_pay7 (F := Ideal) v : EReal) = 0 - ∑ s : Fin 8, ∑ l : Fin 128, v (ix3 0 s l) := by
  refine Eq.trans (b := ((Ideal.ofBits .f32 0x00000000#32 : EReal) - ∑ s : Fin 8, ∑ l : Fin 128, v (ix3 0 s l))) ?_ (by rw [Ideal.ofBits_zero_f32])
  exact congrArg (fun b : EReal => (Ideal.ofBits .f32 0x00000000#32 : EReal) - b) (plane_sum v)

theorem emb_plane0 (s : Fin 8) (l : Fin 128) : (Rect.unit (s := S2x8x128) ![0, 0, 0] S1x8x128.size inb_S2x8x128_S1x8x128_0_0_0).toLoadRect.idx (ix3 0 s l) = ix3 0 s l := by
  funext a; apply Fin.ext
  match a with
  | ⟨0, _⟩ => rfl
  | ⟨1, _⟩ => show 0 + 1 * s.val = s.val; omega
  | ⟨2, _⟩ => show 0 + 1 * l.val = l.val; omega

theorem emb_plane1 (s : Fin 8) (l : Fin 128) : (Rect.unit (s := S2x8x128) ![1, 0, 0] S1x8x128.size inb_S2x8x128_S1x8x128_1_0_0).toLoadRect.idx (ix3 0 s l) = ix3 1 s l := by
  funext a; apply Fin.ext
  match a with
  | ⟨0, _⟩ => rfl
  | ⟨1, _⟩ => show 0 + 1 * s.val = s.val; omega
  | ⟨2, _⟩ => show 0 + 1 * l.val = l.val; omega

/-- A point's addition to the output's block: the rows' products, summed. -/
theorem pay3_apply (o : Vec Ideal S2560x768 .f32) (x : Vec Ideal S2048x2560 .bf16) (dy : Vec Ideal S2048x768 .fp8e5m2) (r : Fin 2560) (q : Fin 768) :
    (k0_pay3 (F := Ideal) o x dy (ix2 r q) : EReal) = o (ix2 r q) + ∑ k : Fin 2048, (x (ix2 k r) : EReal) * dy (ix2 k q) := by
  unfold k0_pay3
  rw [shapeCast_self, shapeCast_self, shapeCast_self]
  refine congrArg (fun b : EReal => (o (ix2 r q) : EReal) + b) ?_
  refine (Ideal.matmul_apply₁_of dot_S2048x2560_S2048x768_S2560x768_0_0_1_1_n_n (a := 0) rfl (K := 2048) rfl x dy _ (ix2 r q) (fun k => ix2 k r) (fun k => ix2 k q) (fun k => ?_) (fun k => ?_)).trans ?_
  · funext a; apply Fin.ext
    match a with
    | ⟨0, _⟩ => rfl
    | ⟨1, _⟩ => rfl
  · funext a; apply Fin.ext
    match a with
    | ⟨0, _⟩ => rfl
    | ⟨1, _⟩ => rfl
  · show (Ideal.ofBits .f32 0x00000000#32 + _ : EReal) = _
    rw [Ideal.ofBits_zero_f32, zero_add]

section Points

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S2560x128 .i8) (harg5 : arg5.IsWhole) (arg6 : Memref sig .tc .vmem S2560x128 .i8) (harg6 : arg6.IsWhole) (arg7 : Memref sig .tc .vmem S2048x2560 .bf16) (harg7 : arg7.IsWhole) (arg8 : Memref sig .tc .vmem S2048x768 .fp8e5m2) (harg8 : arg8.IsWhole) (arg9 : Memref sig .tc .vmem S2560x768 .f32) (harg9 : arg9.IsWhole) (arg10 : Memref sig .tc .smem S1x1 .f32) (harg10 : arg10.IsWhole) (arg11 : Memref sig .tc .smem S1x1 .f32) (harg11 : arg11.IsWhole) (arg12 : Memref sig .tc .vmem S2x8x128 .f32) (harg12 : arg12.IsWhole)
  (x0 : Vec Ideal S1x1 .f32) (x1 : Vec Ideal S1x1 .f32) (x2 : Vec Ideal S1x1 .f32) (x3 : Vec Ideal S2560x128 .i8) (x4 : Vec Ideal S2560x128 .i8) (x5 : Vec Ideal S2048x2560 .bf16) (x6 : Vec Ideal S2048x768 .fp8e5m2) (xo7 : Vec Ideal S2560x768 .f32) (xs0 : Vec Ideal S2x8x128 .f32)

/-- The output's block after the first point. -/
theorem outA (hc0 : cond0_0 i) (hc1 : cond0_1 i) (hc2 : ¬cond0_2 i) (f : BufTy.Contents (Elt Ideal) arg9.view.ty) :
    arg9.view.read (Elt Ideal) (arg9.view.writes (Elt Ideal) f (kernelRun0_A (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6).1) = k0_pay3 (F := Ideal) (k0_pay2 (F := Ideal)) x5 x6 := by
  unfold kernelRun0_A
  dsimp only
  sl_unfold_words
  rw [read_cons_zero _ _ z2]
  rw [View.readCov_unit_zero _ z2, View.readAt_eq_ld, harg7.read_unread, View.ld_unit_zero z2, View.readAt_eq_ld, harg8.read_unread, View.ld_unit_zero z2]

/-- The output's block after a column block's first point. -/
theorem outD (hc0 : ¬cond0_0 i) (hc1 : cond0_1 i) (hc2 : ¬cond0_2 i) (f : BufTy.Contents (Elt Ideal) arg9.view.ty) :
    arg9.view.read (Elt Ideal) (arg9.view.writes (Elt Ideal) f (kernelRun0_D (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xs0).1) = k0_pay3 (F := Ideal) (k0_pay2 (F := Ideal)) x5 x6 := by
  unfold kernelRun0_D
  dsimp only
  sl_unfold_words
  rw [read_cons_zero _ _ z2]
  rw [View.readCov_unit_zero _ z2, View.readAt_eq_ld, harg7.read_unread, View.ld_unit_zero z2, View.readAt_eq_ld, harg8.read_unread, View.ld_unit_zero z2]

/-- The output's block after a middle point. -/
theorem outB (hc0 : ¬cond0_0 i) (hc1 : ¬cond0_1 i) (hc2 : ¬cond0_2 i) (f : BufTy.Contents (Elt Ideal) arg9.view.ty) :
    arg9.view.read (Elt Ideal) (arg9.view.writes (Elt Ideal) f (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 xo7 xs0).1) = k0_pay3 (F := Ideal) xo7 x5 x6 := by
  unfold kernelRun0_B
  dsimp only
  sl_unfold_words
  rw [read_cons_zero _ _ z2]
  rw [View.readAt_eq_ld, harg9.read_unread, View.ld_unit_zero z2, View.readAt_eq_ld, harg7.read_unread, View.ld_unit_zero z2, View.readAt_eq_ld, harg8.read_unread, View.ld_unit_zero z2]

/-- The running sums after the first point. -/
theorem sumsA (hc0 : cond0_0 i) (hc1 : cond0_1 i) (hc2 : ¬cond0_2 i) (f : BufTy.Contents (Elt Ideal) arg12.view.ty) :
    arg12.view.read (Elt Ideal) (arg12.view.writes (Elt Ideal) f (kernelRun0_A (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6).2.2.2.1) = k0_pay1 (F := Ideal) := by
  unfold kernelRun0_A
  dsimp only
  exact read_cons_zero (S := S2x8x128) _ _ z3 inb_S2x8x128_S2x8x128_0_0_0 _ _

/-- The output's block after a column block's last point. -/
theorem outC (hc0 : ¬cond0_0 i) (hc1 : ¬cond0_1 i) (hc2 : cond0_2 i) (hc3 : ¬cond0_3 i) (f : BufTy.Contents (Elt Ideal) arg9.view.ty) :
    arg9.view.read (Elt Ideal) (arg9.view.writes (Elt Ideal) f (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).1) = ternAll ((i 0).val % 2) (x0 (ix2 0 0)) (x1 (ix2 0 0)) (x2 (ix2 0 0)) x3 x4 (k0_pay3 (F := Ideal) xo7 x5 x6) := by
  have hcov : ∀ y, ∃ p ∈ (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).1, y ∈ p.1.set := fun y => by
    unfold kernelRun0_C
    dsimp only
    sl_unfold_words
    exact ⟨_, List.mem_append_right _ List.mem_cons_self, mem_zero z2 inb_S2560x768_S2560x768_0_0 _⟩
  rw [View.read_writes_eq_canon _ _ _ hcov, ← View.read_writes_eq_canon arg9.view arg9.view.junk _ hcov]
  unfold kernelRun0_C
  dsimp only
  sl_unfold_words
  funext y
  rw [View.writes_append]
  refine (pb_out Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) y).trans ?_
  rw [if_pos (lt_of_lt_of_eq (y 0).isLt (by decide))]
  rw [sc_read arg2 harg2, sc_read arg3 harg3, sc_read arg4 harg4, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread]

/-- Plane 0 of the running sums after a column block's last point. -/
theorem sumsC0 (hc0 : ¬cond0_0 i) (hc1 : ¬cond0_1 i) (hc2 : cond0_2 i) (hc3 : ¬cond0_3 i) (f : BufTy.Contents (Elt Ideal) arg12.view.ty) (s : Fin 8) (l : Fin 128) :
    (arg12.view.read (Elt Ideal) (arg12.view.writes (Elt Ideal) f (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1) (ix3 0 s l) : EReal)
      = xs0 (ix3 0 s l) + ∑ k ∈ Finset.range 10, rowSum (hit ((i 0).val % 2) 1#32 (x0 (ix2 0 0)) x3 x4 (k0_pay3 (F := Ideal) xo7 x5 x6)) k s l := by
  have hcov : ∀ y, ∃ p ∈ (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1, y ∈ p.1.set := fun y =>
    View.cover_of_tiledL (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1 S1x8x128.size (by sl_kernel_rfl) y
  rw [View.read_writes_eq_canon _ _ _ hcov, ← View.read_writes_eq_canon arg12.view (harg12.unread xs0) _ hcov]
  unfold kernelRun0_C
  dsimp only
  sl_unfold_words
  refine (pb_sums0 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

/-- Plane 1 of the running sums after a column block's last point. -/
theorem sumsC1 (hc0 : ¬cond0_0 i) (hc1 : ¬cond0_1 i) (hc2 : cond0_2 i) (hc3 : ¬cond0_3 i) (f : BufTy.Contents (Elt Ideal) arg12.view.ty) (s : Fin 8) (l : Fin 128) :
    (arg12.view.read (Elt Ideal) (arg12.view.writes (Elt Ideal) f (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1) (ix3 1 s l) : EReal)
      = xs0 (ix3 1 s l) + ∑ k ∈ Finset.range 10, rowSum (hit ((i 0).val % 2) 2#32 (x0 (ix2 0 0)) x3 x4 (k0_pay3 (F := Ideal) xo7 x5 x6)) k s l := by
  have hcov : ∀ y, ∃ p ∈ (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1, y ∈ p.1.set := fun y =>
    View.cover_of_tiledL (kernelRun0_C (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1 S1x8x128.size (by sl_kernel_rfl) y
  rw [View.read_writes_eq_canon _ _ _ hcov, ← View.read_writes_eq_canon arg12.view (harg12.unread xs0) _ hcov]
  unfold kernelRun0_C
  dsimp only
  sl_unfold_words
  refine (pb_sums1 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

/-- The output's block after the last point. -/
theorem outE (hc0 : ¬cond0_0 i) (hc1 : ¬cond0_1 i) (hc2 : cond0_2 i) (hc3 : cond0_3 i) (f : BufTy.Contents (Elt Ideal) arg9.view.ty) :
    arg9.view.read (Elt Ideal) (arg9.view.writes (Elt Ideal) f (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).1) = ternAll ((i 0).val % 2) (x0 (ix2 0 0)) (x1 (ix2 0 0)) (x2 (ix2 0 0)) x3 x4 (k0_pay3 (F := Ideal) xo7 x5 x6) := by
  have hcov : ∀ y, ∃ p ∈ (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).1, y ∈ p.1.set := fun y => by
    unfold kernelRun0_E
    dsimp only
    sl_unfold_words
    exact ⟨_, List.mem_append_right _ List.mem_cons_self, mem_zero z2 inb_S2560x768_S2560x768_0_0 _⟩
  rw [View.read_writes_eq_canon _ _ _ hcov, ← View.read_writes_eq_canon arg9.view arg9.view.junk _ hcov]
  unfold kernelRun0_E
  dsimp only
  sl_unfold_words
  funext y
  rw [View.writes_append]
  refine (pb_out Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) y).trans ?_
  rw [if_pos (lt_of_lt_of_eq (y 0).isLt (by decide))]
  rw [sc_read arg2 harg2, sc_read arg3 harg3, sc_read arg4 harg4, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread]

/-- Plane 0 of the running sums after the last point. -/
theorem sumsE0 (hc0 : ¬cond0_0 i) (hc1 : ¬cond0_1 i) (hc2 : cond0_2 i) (hc3 : cond0_3 i) (f : BufTy.Contents (Elt Ideal) arg12.view.ty) (s : Fin 8) (l : Fin 128) :
    (arg12.view.read (Elt Ideal) (arg12.view.writes (Elt Ideal) f (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1) (ix3 0 s l) : EReal)
      = xs0 (ix3 0 s l) + ∑ k ∈ Finset.range 10, rowSum (hit ((i 0).val % 2) 1#32 (x0 (ix2 0 0)) x3 x4 (k0_pay3 (F := Ideal) xo7 x5 x6)) k s l := by
  have hcov : ∀ y, ∃ p ∈ (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1, y ∈ p.1.set := fun y =>
    View.cover_of_tiledL (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1 S1x8x128.size (by sl_kernel_rfl) y
  rw [View.read_writes_eq_canon _ _ _ hcov, ← View.read_writes_eq_canon arg12.view (harg12.unread xs0) _ hcov]
  unfold kernelRun0_E
  dsimp only
  sl_unfold_words
  refine (pb_sums0 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

/-- Plane 1 of the running sums after the last point. -/
theorem sumsE1 (hc0 : ¬cond0_0 i) (hc1 : ¬cond0_1 i) (hc2 : cond0_2 i) (hc3 : cond0_3 i) (f : BufTy.Contents (Elt Ideal) arg12.view.ty) (s : Fin 8) (l : Fin 128) :
    (arg12.view.read (Elt Ideal) (arg12.view.writes (Elt Ideal) f (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1) (ix3 1 s l) : EReal)
      = xs0 (ix3 1 s l) + ∑ k ∈ Finset.range 10, rowSum (hit ((i 0).val % 2) 2#32 (x0 (ix2 0 0)) x3 x4 (k0_pay3 (F := Ideal) xo7 x5 x6)) k s l := by
  have hcov : ∀ y, ∃ p ∈ (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1, y ∈ p.1.set := fun y =>
    View.cover_of_tiledL (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.2.1 S1x8x128.size (by sl_kernel_rfl) y
  rw [View.read_writes_eq_canon _ _ _ hcov, ← View.read_writes_eq_canon arg12.view (harg12.unread xs0) _ hcov]
  unfold kernelRun0_E
  dsimp only
  sl_unfold_words
  refine (pb_sums1 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

/-- The first scalar result after the last point. -/
theorem r8E (hc0 : ¬cond0_0 i) (hc1 : ¬cond0_1 i) (hc2 : cond0_2 i) (hc3 : cond0_3 i) (f : BufTy.Contents (Elt Ideal) arg10.view.ty) :
    arg10.view.read (Elt Ideal) (arg10.view.writes (Elt Ideal) f (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.1)
      = fun _ => (∑ s : Fin 8, ∑ l : Fin 128, (xs0 (ix3 0 s l) + ∑ k ∈ Finset.range 10, rowSum (hit ((i 0).val % 2) 1#32 (x0 (ix2 0 0)) x3 x4 (k0_pay3 (F := Ideal) xo7 x5 x6)) k s l : EReal) : EReal) := by
  unfold kernelRun0_E
  dsimp only
  sl_unfold_words
  refine (read_cons_zero (S := S1x1) _ _ z2 inb_S1x1_S1x1_0_0 _ _).trans ?_
  funext _
  rw [pay6_apply]
  refine congrArg (fun b : EReal => b) (Finset.sum_congr rfl fun s _ => Finset.sum_congr rfl fun l _ => ?_)
  refine (congrArg _ (emb_plane0 s l)).trans ?_
  refine (pb_sums0 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

/-- The second scalar result after the last point. -/
theorem r9E (hc0 : ¬cond0_0 i) (hc1 : ¬cond0_1 i) (hc2 : cond0_2 i) (hc3 : cond0_3 i) (f : BufTy.Contents (Elt Ideal) arg11.view.ty) :
    arg11.view.read (Elt Ideal) (arg11.view.writes (Elt Ideal) f (kernelRun0_E (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo7 xs0).2.2.1)
      = fun _ => ((0 : EReal) - ∑ s : Fin 8, ∑ l : Fin 128, (xs0 (ix3 1 s l) + ∑ k ∈ Finset.range 10, rowSum (hit ((i 0).val % 2) 2#32 (x0 (ix2 0 0)) x3 x4 (k0_pay3 (F := Ideal) xo7 x5 x6)) k s l : EReal) : EReal) := by
  unfold kernelRun0_E
  dsimp only
  sl_unfold_words
  refine (read_cons_zero (S := S1x1) _ _ z2 inb_S1x1_S1x1_0_0 _ _).trans ?_
  funext _
  rw [pay7_apply]
  refine congrArg (fun b : EReal => (0 : EReal) - b) (Finset.sum_congr rfl fun s _ => Finset.sum_congr rfl fun l _ => ?_)
  refine (congrArg _ (emb_plane1 s l)).trans ?_
  refine (pb_sums1 Variants.none c none i arg2 harg2 arg3 harg3 arg4 harg4 arg5 harg5 arg6 harg6 arg7 harg7 arg8 harg8 arg9 harg9 arg10 harg10 arg11 harg11 arg12 harg12 hc2 _ _ _ _ _ _ _ _ ⟨(i 0).val % 2, Nat.mod_lt _ (by decide)⟩ (off_eq (i 0)) _ (le_of_eq trips_eq) s l).trans ?_
  rw [sc_read arg2 harg2, read_cons_zero _ _ z2, View.readAt_eq_ld, harg9.read_unread, View.ld_unit_zero z2, View.readAt_eq_ld, harg7.read_unread, View.ld_unit_zero z2, View.readAt_eq_ld, harg8.read_unread, View.ld_unit_zero z2, harg5.read_unread, harg6.read_unread, harg12.read_unread]
  rfl

end Points

end Cert.DwIdeal.Val

end
-- ==== Proof.DwState.lean ====
module

public import proofs.«01_k».proof.Proof.DwCases

@[expose] public section

set_option maxRecDepth 16384

noncomputable section

/-!
What the `dw` kernel's buffers hold after each grid point. Point `t` works on column block `t / 6` (768 columns of the
gradient, 192 bytes of codes) and contraction block `t % 6` (2048 rows of `x` and of `dy`).
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe
open Idealize.ShloMosaic.Pipeline (Window)

variable (m : (ℓ : Loc nD τ sig) → Buf (Elt Ideal) ℓ)

theorem lt54 {n : ℕ} (h : n < cfg0.N) : n < 54 := lt_of_lt_of_eq h (show cfg0.N = 54 from N_0)

/-! ## The two blocks of codes -/

/-- A word for the part of the fifth window's buffer that no transfer fills. -/
def dflt4 : (cfg0.win 4).block.Idx → Elt Ideal (cfg0.win 4).elt := fun _ => Classical.choice inferInstance

/-- The fifth window's buffer after a fetch at `t`, over `d`. -/
def X4 (c : Dev nD) (t : Fin cfg0.N) (d : (cfg0.win 4).block.Idx → Elt Ideal (cfg0.win 4).elt) :
    (cfg0.win 4).block.Idx → Elt Ideal (cfg0.win 4).elt :=
  (cfg0.win 4).fill (cfg0.grid.coords t) d (iblk m c 4 t)

/-- The array of codes. -/
abbrev codes (c : Dev nD) : S2560x1728.Idx → BitVec 8 := m ((c : Thread nD τ).loc main_arg3)

/-- The column block of a point. -/
theorem coord0 : ∀ t : Fin grid0.N, ((grid0.coords t) (0 : Fin 2)).val = t.val / 6 := by decide +kernel

theorem ix3_0 : ∀ t : Fin grid0.N, win0_3.index t (0 : Fin 2) = 0 ∧ win0_3.index t (1 : Fin 2) = 192 * (t.val / 6) / 128 := by decide +kernel
theorem ix4_0 : ∀ t : Fin grid0.N, win0_4.index t (0 : Fin 2) = 0 ∧ win0_4.index t (1 : Fin 2) = 192 * (t.val / 6) / 128 + 1 := by decide +kernel
theorem xs4_0 : ∀ t : Fin grid0.N, win0_4.xsize (grid0.coords t) (0 : Fin 2) = 2560 ∧ win0_4.xsize (grid0.coords t) (1 : Fin 2) = min 128 (1728 - 128 * (192 * (t.val / 6) / 128 + 1)) := by decide +kernel

/-- A byte of the fourth window's block. -/
theorem X3_apply (c : Dev nD) (t : Fin cfg0.N) (r : Fin 2560) (l : Fin 128) (h : 128 * (192 * (t.val / 6) / 128) + l.val < 1728) :
    (X0_3 m c t : S2560x128.Idx → BitVec 8) (ix2 r l) = codes m c (ix2 r ⟨128 * (192 * (t.val / 6) / 128) + l.val, h⟩) := by
  unfold X0_3 Window.fill
  rw [dif_pos (moved0_3 t (ix2 r l))]
  unfold iblk
  refine (congrFun (V_main_arg3 m c) _).trans (congrArg (codes m c) (funext fun a => Fin.ext ?_))
  match a with
  | ⟨0, _⟩ => show win0_3.index t (0 : Fin 2) * 2560 + 1 * r.val = r.val; rw [(ix3_0 t).1]; omega
  | ⟨1, _⟩ => show win0_3.index t (1 : Fin 2) * 128 + 1 * l.val = _; rw [(ix3_0 t).2]; show _ = 128 * (192 * (t.val / 6) / 128) + l.val; omega

/-- A byte of the fifth window's block, where the block lies inside the array. -/
theorem X4_apply (c : Dev nD) (t : Fin cfg0.N) (d) (r : Fin 2560) (l : Fin 128) (h : 128 * (192 * (t.val / 6) / 128 + 1) + l.val < 1728) :
    (X4 m c t d : S2560x128.Idx → BitVec 8) (ix2 r l) = codes m c (ix2 r ⟨128 * (192 * (t.val / 6) / 128 + 1) + l.val, h⟩) := by
  have hm : (cfg0.win 4).moved (cfg0.grid.coords t) (ix2 r l) = true :=
    ((cfg0.win 4).moved_iff _ (ix2 r l)).mpr fun a => by
      match a with
      | ⟨0, _⟩ => show r.val < win0_4.xsize (grid0.coords t) (0 : Fin 2); rw [(xs4_0 t).1]; exact r.isLt
      | ⟨1, _⟩ => show l.val < win0_4.xsize (grid0.coords t) (1 : Fin 2); rw [(xs4_0 t).2]; have := l.isLt; omega
  unfold X4 Window.fill
  rw [dif_pos hm]
  unfold iblk
  refine (congrFun (V_main_arg3 m c) _).trans (congrArg (codes m c) (funext fun a => Fin.ext ?_))
  match a with
  | ⟨0, _⟩ => show win0_4.index t (0 : Fin 2) * 2560 + 1 * r.val = r.val; rw [(ix4_0 t).1]; omega
  | ⟨1, _⟩ => show win0_4.index t (1 : Fin 2) * 128 + 1 * l.val = _; rw [(ix4_0 t).2]; show _ = 128 * (192 * (t.val / 6) / 128 + 1) + l.val; omega

/-- The two blocks side by side hold the bytes of the point's columns, whatever the unfilled part holds. -/
theorem byteAt_blocks (c : Dev nD) (t : Fin cfg0.N) (d) (r : Fin 2560) (q : ℕ) (hq : q < 192) (h : 192 * (t.val / 6) + q < 1728) :
    byteAt (X0_3 m c t) (X4 m c t d) r (64 * (t.val / 6 % 2) + q) = codes m c (ix2 r ⟨192 * (t.val / 6) + q, h⟩) := by
  have ht := lt54 t.isLt
  unfold byteAt
  split_ifs with hb
  · refine (X3_apply m c t r ⟨64 * (t.val / 6 % 2) + q, hb⟩ (by dsimp only; omega)).trans (congrArg (codes m c) (congrArg (ix2 r) (Fin.ext ?_)))
    dsimp only; omega
  · refine (X4_apply m c t d r ⟨(64 * (t.val / 6 % 2) + q - 128) % 128, Nat.mod_lt _ (by decide)⟩ (by dsimp only; omega)).trans (congrArg (codes m c) (congrArg (ix2 r) (Fin.ext ?_)))
    dsimp only; omega

/-- The region field of an element of the point's block. -/
theorem fldAt_blocks (c : Dev nD) (t : Fin cfg0.N) (d) (r : Fin 2560) (q : Fin 768) (h : 192 * (t.val / 6) + q.val / 4 < 1728) :
    fldAt (t.val / 6 % 2) (X0_3 m c t) (X4 m c t d) (ix2 r q) = fld (codes m c (ix2 r ⟨192 * (t.val / 6) + q.val / 4, h⟩)) (q.val % 4) := by
  refine congrArg (fun b => fld b (q.val % 4)) ?_
  have hq := q.isLt
  exact byteAt_blocks m c t d r (q.val / 4) (by omega) h

theorem fldAt_indep (c : Dev nD) (t : Fin cfg0.N) (d) :
    fldAt (t.val / 6 % 2) (X0_3 m c t) (X4 m c t d) = fldAt (t.val / 6 % 2) (X0_3 m c t) (X4 m c t dflt4) := by
  have ht := lt54 t.isLt
  funext y
  obtain ⟨r, q, rfl⟩ : ∃ (r : Fin 2560) (q : Fin 768), y = ix2 r q := ⟨_, _, ValueIdx.eq_ix2 y⟩
  have hq := q.isLt
  rw [fldAt_blocks m c t d r q (by omega), fldAt_blocks m c t dflt4 r q (by omega)]

/-! ## After each point -/

/-- The products summed so far over the contraction blocks of the point's column block. -/
def accu (c : Dev nD) : (n : ℕ) → n < cfg0.N → S2560x768.Idx → EReal
  | 0, h => k0_pay3 (F := Ideal) (k0_pay2 (F := Ideal)) (iblk m c 5 ⟨0, h⟩) (iblk m c 6 ⟨0, h⟩)
  | n + 1, h => k0_pay3 (F := Ideal) (if (n + 1) % 6 = 0 then k0_pay2 (F := Ideal) else accu c n (Nat.lt_of_succ_lt h)) (iblk m c 5 ⟨n + 1, h⟩) (iblk m c 6 ⟨n + 1, h⟩)

/-- The scale, as the point's window holds it. -/
abbrev sc0 (c : Dev nD) (t : Fin cfg0.N) : EReal := (iblk m c 0 t : Vec Ideal S1x1 .f32) (ix2 0 0)

/-- Where the field is `p` the point's scaled products, elsewhere zero. -/
def hits (c : Dev nD) (t : Fin cfg0.N) (p : BitVec 32) : S2560x768.Idx → EReal :=
  hit (t.val / 6 % 2) p (sc0 m c t) (X0_3 m c t) (X4 m c t dflt4) (accu m c t.val t.isLt)

/-- The output's block after a point. -/
def out7 (c : Dev nD) (t : Fin cfg0.N) : S2560x768.Idx → EReal :=
  if t.val % 6 = 5 then
    ternAll (t.val / 6 % 2) (sc0 m c t) ((iblk m c 1 t : Vec Ideal S1x1 .f32) (ix2 0 0)) ((iblk m c 2 t : Vec Ideal S1x1 .f32) (ix2 0 0)) (X0_3 m c t) (X4 m c t dflt4) (accu m c t.val t.isLt)
  else accu m c t.val t.isLt

/-- What a point that ends a column block adds to the running sums. -/
def gain (c : Dev nD) (t : Fin cfg0.N) : S2x8x128.Idx → EReal := fun y =>
  ∑ k ∈ Finset.range 10, rowSum (hits m c t (BitVec.ofNat 32 ((y 0).val + 1))) k (y 1) (y 2)

/-- The running sums after a point. -/
def sums (c : Dev nD) : (n : ℕ) → n < cfg0.N → S2x8x128.Idx → EReal
  | 0, _ => k0_pay1 (F := Ideal)
  | n + 1, h => if (n + 1) % 6 = 5 then fun y => sums c n (Nat.lt_of_succ_lt h) y + gain m c ⟨n + 1, h⟩ y else sums c n (Nat.lt_of_succ_lt h)

/-- The two scalar results, from the sums a point leaves. -/
def out8 (c : Dev nD) (t : Fin cfg0.N) : S1x1.Idx → EReal := fun _ => ∑ s : Fin 8, ∑ l : Fin 128, sums m c t.val t.isLt (ix3 0 s l)
def out9 (c : Dev nD) (t : Fin cfg0.N) : S1x1.Idx → EReal := fun _ => 0 - ∑ s : Fin 8, ∑ l : Fin 128, sums m c t.val t.isLt (ix3 1 s l)

theorem accu_first (c : Dev nD) (t : Fin cfg0.N) (h : t.val % 6 = 0) :
    accu m c t.val t.isLt = k0_pay3 (F := Ideal) (k0_pay2 (F := Ideal)) (iblk m c 5 t) (iblk m c 6 t) := by
  obtain ⟨n, hn⟩ := t
  cases n with
  | zero => rfl
  | succ n => show k0_pay3 (F := Ideal) (if (n + 1) % 6 = 0 then _ else _) _ _ = _; rw [if_pos h]

theorem accu_next (c : Dev nD) (t : Fin cfg0.N) (h : ¬t.val % 6 = 0) :
    accu m c t.val t.isLt = k0_pay3 (F := Ideal) (accu m c (t.val - 1) (Nat.lt_of_le_of_lt (Nat.sub_le _ _) t.isLt)) (iblk m c 5 t) (iblk m c 6 t) := by
  obtain ⟨n, hn⟩ := t
  cases n with
  | zero => exact absurd rfl h
  | succ n => show k0_pay3 (F := Ideal) (if (n + 1) % 6 = 0 then _ else _) _ _ = _; rw [if_neg h]; rfl

theorem sums_last (c : Dev nD) (t : Fin cfg0.N) (h : t.val % 6 = 5) (y : S2x8x128.Idx) :
    sums m c t.val t.isLt y = sums m c (t.val - 1) (Nat.lt_of_le_of_lt (Nat.sub_le _ _) t.isLt) y + gain m c t y := by
  obtain ⟨n, hn⟩ := t
  cases n with
  | zero => exact absurd h (by show ¬0 % 6 = 5; decide)
  | succ n => show (if (n + 1) % 6 = 5 then _ else _ : S2x8x128.Idx → EReal) y = _; rw [if_pos h]; rfl

theorem sums_other (c : Dev nD) (t : Fin cfg0.N) (h0 : t.val ≠ 0) (h : ¬t.val % 6 = 5) :
    sums m c t.val t.isLt = sums m c (t.val - 1) (Nat.lt_of_le_of_lt (Nat.sub_le _ _) t.isLt) := by
  obtain ⟨n, hn⟩ := t
  cases n with
  | zero => exact absurd rfl h0
  | succ n => show (if (n + 1) % 6 = 5 then _ else _ : S2x8x128.Idx → EReal) = _; rw [if_neg h]; rfl

theorem out7_accu (c : Dev nD) (t : Fin cfg0.N) (h : ¬t.val % 6 = 5) : out7 m c t = accu m c t.val t.isLt := if_neg h

/-- The ternary gradients of a point's block, whatever the unfilled part of the codes holds. -/
theorem ternAll_indep (c : Dev nD) (t : Fin cfg0.N) (h : t.val % 6 = 5) (d) :
    ternAll ((grid0.coords t 0).val % 2) (sc0 m c t) ((iblk m c 1 t : Vec Ideal S1x1 .f32) (ix2 0 0)) ((iblk m c 2 t : Vec Ideal S1x1 .f32) (ix2 0 0)) (X0_3 m c t) (X4 m c t d)
      (k0_pay3 (F := Ideal) (accu m c (t.val - 1) (Nat.lt_of_le_of_lt (Nat.sub_le _ _) t.isLt)) (iblk m c 5 t) (iblk m c 6 t)) = out7 m c t := by
  rw [coord0 t, ← accu_next m c t (by omega)]
  unfold out7
  rw [if_pos h]
  unfold ternAll
  rw [fldAt_indep m c t d]

theorem hit_indep (c : Dev nD) (t : Fin cfg0.N) (h : t.val % 6 = 5) (d) (p : BitVec 32) :
    hit ((grid0.coords t 0).val % 2) p (sc0 m c t) (X0_3 m c t) (X4 m c t d)
      (k0_pay3 (F := Ideal) (accu m c (t.val - 1) (Nat.lt_of_le_of_lt (Nat.sub_le _ _) t.isLt)) (iblk m c 5 t) (iblk m c 6 t)) = hits m c t p := by
  rw [coord0 t, ← accu_next m c t (by omega)]
  unfold hits hit
  rw [fldAt_indep m c t d]

end Cert.DwIdeal.Val

end
-- ==== Proof.DwTrack.lean ====
module

public import proofs.«01_k».proof.Proof.DwState
public import Idealize.ShloMosaic.Lib.Claim

@[expose] public section

set_option maxRecDepth 16384

noncomputable section

/-!
The run of the `dw` kernel at the ideal numbers: every execution terminates with every array at what the state of
`DwState` says, and so the frame.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The sums a column block's last point leaves, plane by plane. -/
theorem sums_of (c : Dev nD) (t : Fin cfg0.N) (h : t.val % 6 = 5) (d4) (S : S2x8x128.Idx → EReal)
    (h0 : ∀ (s : Fin 8) (l : Fin 128), S (ix3 0 s l) = sums m c (t.val - 1) (Nat.lt_of_le_of_lt (Nat.sub_le _ _) t.isLt) (ix3 0 s l) + ∑ k ∈ Finset.range 10, rowSum (hit ((grid0.coords t 0).val % 2) 1#32 (sc0 m c t) (X0_3 m c t) (X4 m c t d4)
      (k0_pay3 (F := Ideal) (accu m c (t.val - 1) (Nat.lt_of_le_of_lt (Nat.sub_le _ _) t.isLt)) (iblk m c 5 t) (iblk m c 6 t))) k s l)
    (h1 : ∀ (s : Fin 8) (l : Fin 128), S (ix3 1 s l) = sums m c (t.val - 1) (Nat.lt_of_le_of_lt (Nat.sub_le _ _) t.isLt) (ix3 1 s l) + ∑ k ∈ Finset.range 10, rowSum (hit ((grid0.coords t 0).val % 2) 2#32 (sc0 m c t) (X0_3 m c t) (X4 m c t d4)
      (k0_pay3 (F := Ideal) (accu m c (t.val - 1) (Nat.lt_of_le_of_lt (Nat.sub_le _ _) t.isLt)) (iblk m c 5 t) (iblk m c 6 t))) k s l) :
    S = sums m c t.val t.isLt := by
  funext y
  obtain ⟨p, s, l, rfl⟩ : ∃ (p : Fin 2) (s : Fin 8) (l : Fin 128), y = ix3 p s l := ⟨y 0, y 1, y 2, by funext a; fin_cases a <;> rfl⟩
  rw [sums_last m c t h]
  match p with
  | ⟨0, _⟩ => refine (h0 s l).trans (congrArg (fun z : EReal => _ + z) ?_); rw [hit_indep m c t h d4]; rfl
  | ⟨1, _⟩ => refine (h1 s l).trans (congrArg (fun z : EReal => _ + z) ?_); rw [hit_indep m c t h d4]; rfl

theorem sums_zero (c : Dev nD) (t : Fin cfg0.N) (h : t.val = 0) : sums m c t.val t.isLt = k0_pay1 (F := Ideal) := by
  obtain ⟨n, hn⟩ := t
  obtain rfl : n = 0 := h
  rfl

theorem res_eq8 (c : Dev nD) (t : Fin cfg0.N) (h : t.val % 6 = 5) (d4) :
    (fun _ => (∑ s : Fin 8, ∑ l : Fin 128, (sums m c (t.val - 1) (Nat.lt_of_le_of_lt (Nat.sub_le _ _) t.isLt) (ix3 0 s l) + ∑ k ∈ Finset.range 10, rowSum (hit ((grid0.coords t 0).val % 2) 1#32 (sc0 m c t) (X0_3 m c t) (X4 m c t d4)
      (k0_pay3 (F := Ideal) (accu m c (t.val - 1) (Nat.lt_of_le_of_lt (Nat.sub_le _ _) t.isLt)) (iblk m c 5 t) (iblk m c 6 t))) k s l : EReal) : EReal) : S1x1.Idx → EReal) = out8 m c t := by
  funext _
  refine Finset.sum_congr rfl fun s _ => Finset.sum_congr rfl fun l _ => ?_
  rw [sums_last m c t h, hit_indep m c t h d4]; rfl

theorem res_eq9 (c : Dev nD) (t : Fin cfg0.N) (h : t.val % 6 = 5) (d4) :
    (fun _ => (0 - ∑ s : Fin 8, ∑ l : Fin 128, (sums m c (t.val - 1) (Nat.lt_of_le_of_lt (Nat.sub_le _ _) t.isLt) (ix3 1 s l) + ∑ k ∈ Finset.range 10, rowSum (hit ((grid0.coords t 0).val % 2) 2#32 (sc0 m c t) (X0_3 m c t) (X4 m c t d4)
      (k0_pay3 (F := Ideal) (accu m c (t.val - 1) (Nat.lt_of_le_of_lt (Nat.sub_le _ _) t.isLt)) (iblk m c 5 t) (iblk m c 6 t))) k s l : EReal) : EReal) : S1x1.Idx → EReal) = out9 m c t := by
  funext _
  refine congrArg (fun z : EReal => 0 - z) (Finset.sum_congr rfl fun s _ => Finset.sum_congr rfl fun l _ => ?_)
  rw [sums_last m c t h, hit_indep m c t h d4]; rfl

/-- At any point the body, finding its blocks and what the point before left, leaves what the state says. -/
theorem point_run (c : Dev nD) (t : Fin cfg0.N) (d4) (d7 : Vec Ideal S2560x768 .f32) (d8 d9 : Vec Ideal S1x1 .f32) (ds : Vec Ideal S2x8x128 .f32)
    (h7 : ¬t.val % 6 = 0 → d7 = accu m c (t.val - 1) (Nat.lt_of_le_of_lt (Nat.sub_le _ _) t.isLt)) (hs : t.val ≠ 0 → ds = sums m c (t.val - 1) (Nat.lt_of_le_of_lt (Nat.sub_le _ _) t.isLt)) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (X0_3 m c t) ∗ owns (c : Thread nD τ) (ms0_4 t) fullShare (X4 m c t d4) ∗ owns (c : Thread nD τ) (ms0_5 t) fullShare (iblk m c 5 t) ∗ owns (c : Thread nD τ) (ms0_6 t) fullShare (iblk m c 6 t) ∗ owns (c : Thread nD τ) (ms0_7 t) fullShare d7 ∗ owns (c : Thread nD τ) (ms0_8 t) fullShare d8 ∗ owns (c : Thread nD τ) (ms0_9 t) fullShare d9 ∗ owns (c : Thread nD τ) scM0_0 fullShare ds
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (X0_3 m c t) ∗ owns (c : Thread nD τ) (ms0_4 t) fullShare (X4 m c t d4) ∗ owns (c : Thread nD τ) (ms0_5 t) fullShare (iblk m c 5 t) ∗ owns (c : Thread nD τ) (ms0_6 t) fullShare (iblk m c 6 t) ∗ owns (c : Thread nD τ) (ms0_7 t) fullShare (out7 m c t) ∗ owns (c : Thread nD τ) (ms0_8 t) fullShare (if t.val = 53 then out8 m c t else d8) ∗ owns (c : Thread nD τ) (ms0_9 t) fullShare (if t.val = 53 then out9 m c t else d9) ∗ owns (c : Thread nD τ) scM0_0 fullShare (sums m c t.val t.isLt)) -∗ K ⟨⟩))
      ⊢ wp frame (wpE (defs₀ (F := Ideal)) Variants.none c none) Set.univ (bodyAt0 t) K := by
  unfold bodyAt0
  have hN : t.val < 54 := lt54 t.isLt
  by_cases h2 : t.val % 6 = 5
  · have h0 : ¬t.val % 54 = 0 := by omega
    have h1 : ¬t.val % 6 = 0 := by omega
    by_cases h3 : 48 ≤ t.val
    · skip
      obtain rfl := h7 h1
      obtain rfl := hs (by omega)
      rw [if_pos (by omega), if_pos (by omega)]
      iintro ⟨H0, H1, H2, H3, H4, H5, H6, H7, H8, H9, HS, Hk⟩
      iapply ((kernelRun0_E (F := Ideal) c (grid0.coords t) _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, ⟨%e7, H7⟩, ⟨%e8, H8⟩, ⟨%e9, H9⟩, ⟨%es, HS⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold owns; iexists _; isplitr; swap; iexact H7; ipureintro; exact (outE c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) ((hcond0_3 t).mpr h3) _).trans (ternAll_indep m c t h2 d4)
      isplitl [H8]; · unfold owns; iexists _; isplitr; swap; iexact H8; ipureintro; exact (r8E c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) ((hcond0_3 t).mpr h3) _).trans (res_eq8 m c t h2 d4)
      isplitl [H9]; · unfold owns; iexists _; isplitr; swap; iexact H9; ipureintro; exact (r9E c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) ((hcond0_3 t).mpr h3) _).trans (res_eq9 m c t h2 d4)
      unfold owns; iexists _; isplitr; swap; iexact HS; ipureintro; exact sums_of m c t h2 d4 _ (fun s l => sumsE0 c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) ((hcond0_3 t).mpr h3) _ s l) (fun s l => sumsE1 c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) ((hcond0_3 t).mpr h3) _ s l)
    · skip
      obtain rfl := h7 h1
      obtain rfl := hs (by omega)
      rw [if_neg (by omega), if_neg (by omega)]
      iintro ⟨H0, H1, H2, H3, H4, H5, H6, H7, H8, H9, HS, Hk⟩
      iapply ((kernelRun0_C (F := Ideal) c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, ⟨%e7, H7⟩, H8, H9, ⟨%es, HS⟩⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold owns; iexists _; isplitr; swap; iexact H7; ipureintro; exact (outC c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) (fun h => h3 ((hcond0_3 t).mp h)) _).trans (ternAll_indep m c t h2 d4)
      isplitl [H8]; · iexact H8
      isplitl [H9]; · iexact H9
      unfold owns; iexists _; isplitr; swap; iexact HS; ipureintro; exact sums_of m c t h2 d4 _ (fun s l => sumsC0 c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) (fun h => h3 ((hcond0_3 t).mp h)) _ s l) (fun s l => sumsC1 c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) ((hcond0_2 t).mpr h2) (fun h => h3 ((hcond0_3 t).mp h)) _ s l)
  · by_cases h1 : t.val % 6 = 0
    · by_cases h0 : t.val % 54 = 0
      · skip
        rw [if_neg (by omega), if_neg (by omega)]
        iintro ⟨H0, H1, H2, H3, H4, H5, H6, H7, H8, H9, HS, Hk⟩
        iapply ((kernelRun0_A (F := Ideal) c (grid0.coords t) _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (X0_3 m c t) (X4 m c t d4) (iblk m c 5 t) (iblk m c 6 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS]; · iexists _; iexact HS
        iintro ⟨H0, H1, H2, H3, H4, H5, H6, ⟨%e7, H7⟩, H8, H9, ⟨%es, HS⟩⟩
        iapply Hk
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · unfold owns; iexists _; isplitr; swap; iexact H7; ipureintro; exact (outA c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) ((hcond0_0 t).mpr h0) ((hcond0_1 t).mpr h1) (fun h => h2 ((hcond0_2 t).mp h)) _).trans ((accu_first m c t h1).symm.trans (out7_accu m c t h2).symm)
        isplitl [H8]; · iexact H8
        isplitl [H9]; · iexact H9
        unfold owns; iexists _; isplitr; swap; iexact HS; ipureintro; exact (sumsA c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) ((hcond0_0 t).mpr h0) ((hcond0_1 t).mpr h1) (fun h => h2 ((hcond0_2 t).mp h)) _).trans (sums_zero m c t (by omega)).symm
      · skip
        obtain rfl := hs (by omega)
        rw [if_neg (by omega), if_neg (by omega)]
        iintro ⟨H0, H1, H2, H3, H4, H5, H6, H7, H8, H9, HS, Hk⟩
        iapply ((kernelRun0_D (F := Ideal) c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (X0_3 m c t) (X4 m c t d4) (iblk m c 5 t) (iblk m c 6 t) (sums m c (t.val - 1) (Nat.lt_of_le_of_lt (Nat.sub_le _ _) t.isLt))).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS]; · iexact HS
        iintro ⟨H0, H1, H2, H3, H4, H5, H6, ⟨%e7, H7⟩, H8, H9, HS⟩
        iapply Hk
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · unfold owns; iexists _; isplitr; swap; iexact H7; ipureintro; exact (outD c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (sums m c (t.val - 1) (Nat.lt_of_le_of_lt (Nat.sub_le _ _) t.isLt)) (fun h => h0 ((hcond0_0 t).mp h)) ((hcond0_1 t).mpr h1) (fun h => h2 ((hcond0_2 t).mp h)) _).trans ((accu_first m c t h1).symm.trans (out7_accu m c t h2).symm)
        isplitl [H8]; · iexact H8
        isplitl [H9]; · iexact H9
        rw [sums_other m c t (by omega) h2]; iexact HS
    · have h0 : ¬t.val % 54 = 0 := by omega
      obtain rfl := h7 h1
      obtain rfl := hs (by omega)
      rw [if_neg (by omega), if_neg (by omega)]
      iintro ⟨H0, H1, H2, H3, H4, H5, H6, H7, H8, H9, HS, Hk⟩
      iapply ((kernelRun0_B (F := Ideal) c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, ⟨%e7, H7⟩, H8, H9, HS⟩
      iapply Hk
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · unfold owns; iexists _; isplitr; swap; iexact H7; ipureintro; exact (outB c (grid0.coords t) _ _ _ _ _ _ _ _ _ _ _ _ _ _ _ _ _ _ _ _ _ _ (iblk m c 0 t) (iblk m c 1 t) (iblk m c 2 t) (X0_3 m c t) (X4 m c t d4) (iblk m c 5 t) (iblk m c 6 t) (accu m c (t.val - 1) (Nat.lt_of_le_of_lt (Nat.sub_le _ _) t.isLt)) (sums m c (t.val - 1) (Nat.lt_of_le_of_lt (Nat.sub_le _ _) t.isLt)) (fun h => h0 ((hcond0_0 t).mp h)) (fun h => h1 ((hcond0_1 t).mp h)) (fun h => h2 ((hcond0_2 t).mp h)) _).trans ((accu_next m c t h1).symm.trans (out7_accu m c t h2).symm)
      isplitl [H8]; · iexact H8
      isplitl [H9]; · iexact H9
      rw [sums_other m c t (by omega) h2]; iexact HS

/-! ## The proof data -/

/-- The invariant between points: the running sums and the generator register. -/
def PhiS (c : Dev nD) : (n : ℕ) → n ≤ cfg0.N → sProp 𝕄
  | 0, _ => Pipeline.ΦA spec0 c
  | n + 1, hn => iprop(iprop(owns (c : Thread nD τ) scM0_0 fullShare (sums m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (sums m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (sums m c (n - 1) (by omega))) ∗ (∃ r, prngReg c r)) := by
  cases n with
  | zero => exact absurd rfl hz
  | succ n => rfl

/-- The proof data: each input's buffer holds its block, the outputs and the running sums what the state says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X4 m c t dflt4
    | ⟨5, _⟩ => iblk m c 5 t
    | ⟨6, _⟩ => iblk m c 6 t
    | ⟨7, _⟩ => out7 m c t
    | ⟨8, _⟩ => out8 m c t
    | ⟨9, _⟩ => out9 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X4 m c t dflt4 := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- What the fifth window's buffer holds at a point: its block over something. -/
theorem before0_4 (c : Dev nD) (t : Fin cfg0.N) (d) : (dats m 0 c).before 4 t d = X4 m c t d := by
  refine ((dats m 0 c).before_in_eq_fetched 4 rfl (fun _ => rfl) ?_ (fun t => ?_) t d).trans ?_
  · exact fun t t' h => funext fun a => congrArg (fun n => Pipeline.Clip.of n ((cfg0.win 4).size a) (S2560x1728.size a)) (congrFun h a)
  · rw [after0_4]; unfold X4 Dat.blockOf iblk; rw [Window.cut_fill, A_eq]
  · unfold Dat.fetched Dat.blockOf X4 iblk; rw [A_eq]

/-- Past a column block's first point the output's buffer holds the products summed so far. -/
theorem before0_7 (c : Dev nD) (t : Fin cfg0.N) (h1 : ¬t.val % 6 = 0) (d) :
    (dats m 0 c).before 7 t d = accu m c (t.val - 1) (Nat.lt_of_le_of_lt (Nat.sub_le _ _) t.isLt) := by
  have hN : t.val < 54 := lt54 t.isLt
  rw [Dat.before_out_kept _ 7 rfl t (by omega) (Bool.eq_false_iff.mpr fun h => by have := (flush0_7 _).mp h; dsimp only at this; omega)
    (fun _ => rfl) (fun _ _ => rfl)]
  refine (after0_7 m c _).trans (out7_accu m c _ ?_)
  dsimp only; omega

/-- The two scalar results are live at the last point and idle at every other. -/
theorem idle8 (t : Fin cfg0.N) (h : t.val ≠ 53) : cfg0.idle 8 (grid0.coords t) = true ∧ (cfg0.win 8).flush t = false := by
  have hN : t.val < 54 := lt54 t.isLt
  have H : ∀ t : Fin cfg0.N, t.val ≠ 53 → cfg0.idle 8 (grid0.coords t) = true ∧ (cfg0.win 8).flush t = false := by decide +kernel
  exact H t h
theorem live8 (t : Fin cfg0.N) (h : t.val = 53) : cfg0.idle 8 (grid0.coords t) = false := by
  have H : ∀ t : Fin cfg0.N, t.val = 53 → cfg0.idle 8 (grid0.coords t) = false := by decide +kernel
  exact H t h
theorem idle9 (t : Fin cfg0.N) (h : t.val ≠ 53) : cfg0.idle 9 (grid0.coords t) = true ∧ (cfg0.win 9).flush t = false := by
  have hN : t.val < 54 := lt54 t.isLt
  have H : ∀ t : Fin cfg0.N, t.val ≠ 53 → cfg0.idle 9 (grid0.coords t) = true ∧ (cfg0.win 9).flush t = false := by decide +kernel
  exact H t h
theorem live9 (t : Fin cfg0.N) (h : t.val = 53) : cfg0.idle 9 (grid0.coords t) = false := by
  have H : ∀ t : Fin cfg0.N, t.val = 53 → cfg0.idle 9 (grid0.coords t) = false := by decide +kernel
  exact H t h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare ((cfg0.win 3).fill (cfg0.grid.coords t) d ((cfg0.win 3).cut (cfg0.grid.coords t) ((dats m 0 c).after 3 t))))
    ∗ (∃ d, owns (c : Thread nD τ) (ms0_4 t) fullShare ((cfg0.win 4).fill (cfg0.grid.coords t) d ((cfg0.win 4).cut (cfg0.grid.coords t) ((dats m 0 c).after 4 t))))
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

/-- The two scalar results, as a point leaves them. -/
theorem leaves8 (c : Dev nD) (t : Fin cfg0.N) (d) :
    owns (c : Thread nD τ) (ms0_8 t) fullShare (if t.val = 53 then out8 m c t else (dats m 0 c).before 8 t d) ⊢ ((dats m 0 c).leavesExact 8 t : sProp 𝕄) := by
  by_cases h : t.val = 53
  · rw [if_pos h, show (dats m 0 c).leavesExact 8 t = owns (c : Thread nD τ) (ms0_8 t) fullShare ((dats m 0 c).after 8 t) from by
      unfold Dat.leavesExact; rw [live8 t h], after0_8]
  · rw [if_neg h, Dat.leavesExact_idle (dats m 0 c) 8 t (idle8 t h).1 (idle8 t h).2]
    iintro H
    iexists d; iexact H

theorem leaves9 (c : Dev nD) (t : Fin cfg0.N) (d) :
    owns (c : Thread nD τ) (ms0_9 t) fullShare (if t.val = 53 then out9 m c t else (dats m 0 c).before 9 t d) ⊢ ((dats m 0 c).leavesExact 9 t : sProp 𝕄) := by
  by_cases h : t.val = 53
  · rw [if_pos h, show (dats m 0 c).leavesExact 9 t = owns (c : Thread nD τ) (ms0_9 t) fullShare ((dats m 0 c).after 9 t) from by
      unfold Dat.leavesExact; rw [live9 t h], after0_9]
  · rw [if_neg h, Dat.leavesExact_idle (dats m 0 c) 9 t (idle9 t h).1 (idle9 t h).2]
    iintro H
    iexists d; iexact H

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6,
    after0_0, after0_1, after0_2, after0_3, after0_4, after0_5, after0_6, after0_7]
  rw [show (dats m 0 c).owesAt () t.succ = (dats m 0 c).owesAt () t.castSucc from rfl,
    show (dats m 0 c).Φ t.succ = PhiS m c (t.val + 1) t.isLt from rfl, PhiS_succ, PhiS_castSucc m c t]
  by_cases hz : t.val = 0
  · rw [PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_run m c t d4 _ _ _ ds (fun h => before0_7 m c t h d7) (fun h => absurd hz h) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists (X0_3 m c t); rw [Window.fill_cut]; iexact H3
    isplitl [H4]
    · iexists d4; unfold X4; rw [Window.cut_fill]; iexact H4
    isplitl [H5]; · iexact H5
    isplitl [H6]; · iexact H6
    isplitl [H7]; · iexact H7
    isplitl [H8]
    · iapply (leaves8 m c t d8); iexact H8
    iapply (leaves9 m c t d9); iexact H9
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point_run m c t d4 _ _ _ _ (fun h => before0_7 m c t h d7) (fun _ => rfl) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iexists (X0_3 m c t); rw [Window.fill_cut]; iexact H3
    isplitl [H4]
    · iexists d4; unfold X4; rw [Window.cut_fill]; iexact H4
    isplitl [H5]; · iexact H5
    isplitl [H6]; · iexact H6
    isplitl [H7]; · iexact H7
    isplitl [H8]
    · iapply (leaves8 m c t d8); iexact H8
    iapply (leaves9 m c t d9); iexact H9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 54 := N_0; omega)

/-! ## The run and the frame -/

set_option backward.isDefEq.respectTransparency.types false in
/-- The run: it terminates, each array at what the proof data says, nothing pending. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := body_obligation m) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.DwIdeal.Val

end
-- ==== Proof.DwValue.lean ====
module

public import proofs.«01_k».proof.Proof.DwTrack
public import Idealize.ShloMosaic.Lib.Pipeline.Value
public import Idealize.ShloMosaic.Lib.Pipeline.ValueKit.Geometry
public import Idealize.ShloMosaic.Lib.StableHlo.Run

@[expose] public section

set_option maxRecDepth 16384

noncomputable section

/-!
The value of the `dw` kernel: the three arrays it writes, in closed form in the arrays it reads.
-/

namespace Cert.DwIdeal.Val

open Cert.DwIdeal Cert.DwIdeal.Gen Cert.Region
open Idealize.ShloMosaic hiding ix0 ix1 ix2 ix3 ix4
open Idealize.ShloMosaic.ValueIdx Idealize.ShloMosaic.TcCoe Idealize.ShloMosaic.StableHlo
open Idealize.SL.Sem
open Finset (range)

/-! ## Sums over ranges -/

/-- A sum over `a * b` numbers, `b` at a time. -/
theorem sum_grid (f : ℕ → EReal) (a b : ℕ) : ∑ i ∈ range (a * b), f i = ∑ i ∈ range a, ∑ j ∈ range b, f (i * b + j) := by
  induction a with
  | zero => simp
  | succ a ih => rw [Nat.succ_mul, Finset.sum_range_add, ih, Finset.sum_range_succ]

theorem front3 {A B C : Finset ℕ} (f : ℕ → ℕ → ℕ → EReal) :
    ∑ a ∈ A, ∑ b ∈ B, ∑ c ∈ C, f a b c = ∑ c ∈ C, ∑ a ∈ A, ∑ b ∈ B, f a b c :=
  (Finset.sum_congr rfl fun a _ => Finset.sum_comm).trans Finset.sum_comm

theorem front4 {A B C D : Finset ℕ} (f : ℕ → ℕ → ℕ → ℕ → EReal) :
    ∑ a ∈ A, ∑ b ∈ B, ∑ c ∈ C, ∑ d ∈ D, f a b c d = ∑ d ∈ D, ∑ a ∈ A, ∑ b ∈ B, ∑ c ∈ C, f a b c d :=
  (Finset.sum_congr rfl fun a _ => front3 (f a)).trans Finset.sum_comm

theorem front5 {A B C D E : Finset ℕ} (f : ℕ → ℕ → ℕ → ℕ → ℕ → EReal) :
    ∑ a ∈ A, ∑ b ∈ B, ∑ c ∈ C, ∑ d ∈ D, ∑ e ∈ E, f a b c d e = ∑ e ∈ E, ∑ a ∈ A, ∑ b ∈ B, ∑ c ∈ C, ∑ d ∈ D, f a b c d e :=
  (Finset.sum_congr rfl fun a _ => front4 (f a)).trans Finset.sum_comm

/-- The order in which the kernel sums an array of 2560 rows and 6912 columns is immaterial. -/
theorem sum_all (H : ℕ → ℕ → EReal) :
    ∑ s ∈ range 8, ∑ l ∈ range 128, ∑ j ∈ range 9, ∑ k ∈ range 10, ∑ t ∈ range 6, ∑ q ∈ range 32, H (256 * k + (8 * q + s)) (768 * j + (128 * t + l))
      = ∑ r ∈ range 2560, ∑ f ∈ range 6912, H r f := by
  have hf : ∀ r, ∑ f ∈ range 6912, H r f = ∑ j ∈ range 9, ∑ t ∈ range 6, ∑ l ∈ range 128, H r (768 * j + (128 * t + l)) := fun r => by
    refine (sum_grid (H r) 9 768).trans (Finset.sum_congr rfl fun j _ => ?_)
    refine (sum_grid (fun x => H r (j * 768 + x)) 6 128).trans (Finset.sum_congr rfl fun t _ => Finset.sum_congr rfl fun l _ => ?_)
    rw [Nat.mul_comm j, Nat.mul_comm t]
  have hr : ∀ g : ℕ → EReal, ∑ r ∈ range 2560, g r = ∑ k ∈ range 10, ∑ q ∈ range 32, ∑ s ∈ range 8, g (256 * k + (8 * q + s)) := fun g => by
    refine (sum_grid g 10 256).trans (Finset.sum_congr rfl fun k _ => ?_)
    refine (sum_grid (fun x => g (k * 256 + x)) 32 8).trans (Finset.sum_congr rfl fun q _ => Finset.sum_congr rfl fun s _ => ?_)
    rw [Nat.mul_comm k, Nat.mul_comm q]
  rw [hr]
  refine (Finset.sum_congr rfl fun s _ => Finset.sum_congr rfl fun l _ => rfl).trans ?_
  refine (front4 (fun s l j k => ∑ t ∈ range 6, ∑ q ∈ range 32, H (256 * k + (8 * q + s)) (768 * j + (128 * t + l)))).trans (Finset.sum_congr rfl fun k _ => ?_)
  refine (front5 (fun s l j t q => H (256 * k + (8 * q + s)) (768 * j + (128 * t + l)))).trans (Finset.sum_congr rfl fun q _ => Finset.sum_congr rfl fun s _ => ?_)
  rw [hf]
  exact (front3 (fun j t l => H (256 * k + (8 * q + s)) (768 * j + (128 * t + l)))).symm

variable (m : (ℓ : Loc nD τ sig) → Buf (Elt Ideal) ℓ) (ρ : Dev nD → PrngReg)

/-! ## What the kernel reads -/

theorem V_scale (c : Dev nD) (y : S1x1.Idx) : V m c main_v2 y = m ((c : Thread nD τ).loc main_arg2) ix0 := by
  have h : V m c main_v2 = shapeCast S1x1 (m ((c : Thread nD τ).loc main_arg2)) shapeCasts_S_S1x1 := by
    show StableHlo.after hostOps0 _ (Proc.devRef .tc main_v2) = _
    after_results
    rfl
  rw [h]
  exact congrArg (m ((c : Thread nD τ).loc main_arg2)) (funext fun a => a.elim0)

theorem V_wp (c : Dev nD) (y : S1x1.Idx) : V m c main_v3 y = m ((c : Thread nD τ).loc main_arg4) ix0 := by
  have h : V m c main_v3 = shapeCast S1x1 (m ((c : Thread nD τ).loc main_arg4)) shapeCasts_S_S1x1 := by
    show StableHlo.after hostOps0 _ (Proc.devRef .tc main_v3) = _
    after_results
    rfl
  rw [h]
  exact congrArg (m ((c : Thread nD τ).loc main_arg4)) (funext fun a => a.elim0)

theorem V_wn (c : Dev nD) (y : S1x1.Idx) : V m c main_v4 y = m ((c : Thread nD τ).loc main_arg5) ix0 := by
  have h : V m c main_v4 = shapeCast S1x1 (m ((c : Thread nD τ).loc main_arg5)) shapeCasts_S_S1x1 := by
    show StableHlo.after hostOps0 _ (Proc.devRef .tc main_v4) = _
    after_results
    rfl
  rw [h]
  exact congrArg (m ((c : Thread nD τ).loc main_arg5)) (funext fun a => a.elim0)

/-- The activations and the gradient codes, as the kernel finds them: the batch and the sequence flattened. -/
theorem V_x (c : Dev nD) : V m c main_v0 = shapeCast S12288x2560 (m ((c : Thread nD τ).loc main_arg0)) shapeCasts_S24x512x2560_S12288x2560 := by
  show StableHlo.after hostOps0 _ (Proc.devRef .tc main_v0) = _
  after_results
  rfl

theorem V_dy (c : Dev nD) : V m c main_v1 = shapeCast S12288x6912 (m ((c : Thread nD τ).loc main_arg1)) shapeCasts_S24x512x6912_S12288x6912 := by
  show StableHlo.after hostOps0 _ (Proc.devRef .tc main_v1) = _
  after_results
  rfl

/-- The activations, -/
abbrev xv (c : Dev nD) : S12288x2560.Idx → EReal := V m c main_v0
/-- the gradient codes as numbers, -/
abbrev dyv (c : Dev nD) : S12288x6912.Idx → EReal := V m c main_v1
/-- the scale -/
abbrev scv (c : Dev nD) : EReal := m ((c : Thread nD τ).loc main_arg2) ix0
/-- and the two weights. -/
abbrev wpv (c : Dev nD) : EReal := m ((c : Thread nD τ).loc main_arg4) ix0
abbrev wnv (c : Dev nD) : EReal := m ((c : Thread nD τ).loc main_arg5) ix0

theorem blk0 (c : Dev nD) (t : Fin cfg0.N) (y : S1x1.Idx) : (iblk m c 0 t : Vec Ideal S1x1 .f32) y = scv m c := V_scale m c _
theorem blk1 (c : Dev nD) (t : Fin cfg0.N) (y : S1x1.Idx) : (iblk m c 1 t : Vec Ideal S1x1 .f32) y = wpv m c := V_wp m c _
theorem blk2 (c : Dev nD) (t : Fin cfg0.N) (y : S1x1.Idx) : (iblk m c 2 t : Vec Ideal S1x1 .f32) y = wnv m c := V_wn m c _

theorem ix5_0 : ∀ t : Fin grid0.N, win0_5.index t (0 : Fin 2) = t.val % 6 ∧ win0_5.index t (1 : Fin 2) = 0 := by decide +kernel
theorem ix6_0 : ∀ t : Fin grid0.N, win0_6.index t (0 : Fin 2) = t.val % 6 ∧ win0_6.index t (1 : Fin 2) = t.val / 6 := by decide +kernel
theorem ix7_0 : ∀ t : Fin grid0.N, win0_7.index t (0 : Fin 2) = 0 ∧ win0_7.index t (1 : Fin 2) = t.val / 6 := by decide +kernel

/-- The window of the activations at a point. -/
theorem blk5 (c : Dev nD) (t : Fin cfg0.N) (k : Fin 2048) (r : Fin 2560) (h : 2048 * (t.val % 6) + k.val < 12288) :
    (iblk m c 5 t : Vec Ideal S2048x2560 .bf16) (ix2 k r) = xv m c (ix2 ⟨2048 * (t.val % 6) + k.val, h⟩ r) := by
  have h' : ((cfg0.win 5).blk t).view.emb (ix2 k r) = ix2 (⟨2048 * (t.val % 6) + k.val, h⟩ : Fin 12288) r := by
    funext a; apply Fin.ext
    match a with
    | ⟨0, _⟩ => show win0_5.index t (0 : Fin 2) * 2048 + 1 * k.val = 2048 * (t.val % 6) + k.val; rw [(ix5_0 t).1]; omega
    | ⟨1, _⟩ => show win0_5.index t (1 : Fin 2) * 2560 + 1 * r.val = r.val; rw [(ix5_0 t).2]; omega
  show V m c main_v0 (((cfg0.win 5).blk t).view.emb (ix2 k r)) = _
  rw [h']

/-- The window of the gradient codes at a point. -/
theorem blk6 (c : Dev nD) (t : Fin cfg0.N) (k : Fin 2048) (q : Fin 768) (h : 2048 * (t.val % 6) + k.val < 12288) (hf : 768 * (t.val / 6) + q.val < 6912) :
    (iblk m c 6 t : Vec Ideal S2048x768 .fp8e5m2) (ix2 k q) = dyv m c (ix2 ⟨2048 * (t.val % 6) + k.val, h⟩ ⟨768 * (t.val / 6) + q.val, hf⟩) := by
  have h' : ((cfg0.win 6).blk t).view.emb (ix2 k q) = ix2 (⟨2048 * (t.val % 6) + k.val, h⟩ : Fin 12288) (⟨768 * (t.val / 6) + q.val, hf⟩ : Fin 6912) := by
    funext a; apply Fin.ext
    match a with
    | ⟨0, _⟩ => show win0_6.index t (0 : Fin 2) * 2048 + 1 * k.val = 2048 * (t.val % 6) + k.val; rw [(ix6_0 t).1]; omega
    | ⟨1, _⟩ => show win0_6.index t (1 : Fin 2) * 768 + 1 * q.val = 768 * (t.val / 6) + q.val; rw [(ix6_0 t).2]; omega
  show V m c main_v1 (((cfg0.win 6).blk t).view.emb (ix2 k q)) = _
  rw [h']

/-! ## The products -/

/-- One product of the gradient of the weight `(d, f)`, -/
def P (c : Dev nD) (d : Fin 2560) (f : Fin 6912) (n : ℕ) : EReal :=
  xv m c (ix2 ⟨n % 12288, Nat.mod_lt _ (by decide)⟩ d) * dyv m c (ix2 ⟨n % 12288, Nat.mod_lt _ (by decide)⟩ f)

/-- the scaled gradient, -/
def gK (c : Dev nD) (d : Fin 2560) (f : Fin 6912) : EReal := (∑ n ∈ range 12288, P m c d f n) * scv m c
/-- and the region the weight is in. -/
def fK (c : Dev nD) (d : Fin 2560) (f : Fin 6912) : BitVec 32 := fld (codes m c (ix2 d ⟨f.val / 4, by omega⟩)) (f.val % 4)

/-- What one point adds: the products of its rows. -/
theorem step (c : Dev nD) (t : Fin cfg0.N) (o : Vec Ideal S2560x768 .f32) (r : Fin 2560) (q : Fin 768) (hf : 768 * (t.val / 6) + q.val < 6912) :
    (k0_pay3 (F := Ideal) o (iblk m c 5 t) (iblk m c 6 t) (ix2 r q) : EReal)
      = o (ix2 r q) + ∑ k ∈ range 2048, P m c r ⟨768 * (t.val / 6) + q.val, hf⟩ (2048 * (t.val % 6) + k) := by
  rw [pay3_apply, Finset.sum_range]
  refine congrArg (fun z : EReal => o (ix2 r q) + z) (Finset.sum_congr rfl fun k _ => ?_)
  have hk : 2048 * (t.val % 6) + k.val < 12288 := by have := k.isLt; omega
  have e : (⟨(2048 * (t.val % 6) + k.val) % 12288, Nat.mod_lt _ (by decide)⟩ : Fin 12288) = ⟨2048 * (t.val % 6) + k.val, hk⟩ := Fin.ext (Nat.mod_eq_of_lt hk)
  unfold P
  rw [e]
  exact congrArg₂ (fun a b : EReal => a * b) (blk5 m c t k r hk) (blk6 m c t k q hk hf)

/-- The running products after a point. -/
theorem accu_closed (c : Dev nD) (r : Fin 2560) (q : Fin 768) : ∀ (n : ℕ) (hn : n < cfg0.N) (hf : 768 * (n / 6) + q.val < 6912),
    accu m c n hn (ix2 r q) = ∑ i ∈ range (2048 * (n % 6) + 2048), P m c r ⟨768 * (n / 6) + q.val, hf⟩ i := by
  intro n
  induction n with
  | zero =>
    intro hn hf
    refine (congrFun (accu_first m c ⟨0, hn⟩ rfl) _).trans ((step m c ⟨0, hn⟩ _ r q hf).trans ?_)
    have hz : k0_pay2 (F := Ideal) (ix2 r q) = (0 : EReal) := Ideal.ofBits_zero_f32
    rw [hz, zero_add, Finset.sum_range_add]
    simp only [Nat.zero_mod, Nat.mul_zero, Finset.range_zero, Finset.sum_empty, zero_add]
  | succ n ih =>
    intro hn hf
    rw [Finset.sum_range_add]
    by_cases h : (n + 1) % 6 = 0
    · refine (congrFun (accu_first m c ⟨n + 1, hn⟩ h) _).trans ((step m c ⟨n + 1, hn⟩ _ r q hf).trans ?_)
      have hz : k0_pay2 (F := Ideal) (ix2 r q) = (0 : EReal) := Ideal.ofBits_zero_f32
      have hs : ∑ i ∈ range (2048 * ((n + 1) % 6)), P m c r ⟨768 * ((n + 1) / 6) + q.val, hf⟩ i = 0 := by rw [h]; rfl
      rw [hz, hs]
    · refine (congrFun (accu_next m c ⟨n + 1, hn⟩ h) _).trans ((step m c ⟨n + 1, hn⟩ _ r q hf).trans ?_)
      refine congrArg (fun z : EReal => z + _) ?_
      have hd : n / 6 = (n + 1) / 6 := by omega
      have hm : 2048 * (n % 6) + 2048 = 2048 * ((n + 1) % 6) := by omega
      refine (ih (Nat.lt_of_succ_lt hn) (by rw [hd]; exact hf)).trans ?_
      rw [hm]
      refine Finset.sum_congr rfl fun i _ => ?_
      refine congrArg (fun g => P m c r g i) (Fin.ext ?_)
      show 768 * (n / 6) + q.val = 768 * ((n + 1) / 6) + q.val
      rw [hd]

theorem accu_last (c : Dev nD) (t : Fin cfg0.N) (h : t.val % 6 = 5) (r : Fin 2560) (q : Fin 768) (hf : 768 * (t.val / 6) + q.val < 6912) :
    accu m c t.val t.isLt (ix2 r q) * sc0 m c t = gK m c r ⟨768 * (t.val / 6) + q.val, hf⟩ := by
  rw [accu_closed m c r q t.val t.isLt hf, h]
  exact congrArg (fun z : EReal => _ * z) (blk0 m c t _)

theorem fld_point (c : Dev nD) (t : Fin cfg0.N) (r : Fin 2560) (q : Fin 768) (hf : 768 * (t.val / 6) + q.val < 6912) :
    fldAt (t.val / 6 % 2) (X0_3 m c t) (X4 m c t dflt4) (ix2 r q) = fK m c r ⟨768 * (t.val / 6) + q.val, hf⟩ := by
  rw [fldAt_blocks m c t dflt4 r q (by omega)]
  unfold fK
  have e1 : 192 * (t.val / 6) + q.val / 4 = (768 * (t.val / 6) + q.val) / 4 := by omega
  have e2 : q.val % 4 = (768 * (t.val / 6) + q.val) % 4 := by omega
  simp only [e1, e2]

/-! ## The ternary gradients -/

/-- The kernel's first result. -/
def dwK (c : Dev nD) : S2560x6912.Idx → EReal := fun y => ternv (wpv m c) (wnv m c) (fK m c (y 0) (y 1)) (gK m c (y 0) (y 1))

theorem out7_apply (c : Dev nD) (t : Fin cfg0.N) (h : t.val % 6 = 5) (r : Fin 2560) (q : Fin 768) (hf : 768 * (t.val / 6) + q.val < 6912) :
    out7 m c t (ix2 r q) = dwK m c (ix2 r ⟨768 * (t.val / 6) + q.val, hf⟩) := by
  unfold out7
  rw [if_pos h]
  unfold ternAll
  rw [fld_point m c t r q hf, accu_last m c t h r q hf, blk1, blk2]
  rfl

theorem arr7 (c : Dev nD) : (dats m 0 c).arrAt 7 cfg0.N = dwK m c := by
  funext y
  obtain ⟨r, f, rfl⟩ : ∃ (r : Fin 2560) (f : Fin 6912), y = ix2 r f := ⟨y 0, y 1, by funext a; fin_cases a <;> rfl⟩
  have hf := f.isLt
  have hN : 6 * (f.val / 768) + 5 < cfg0.N := lt_of_lt_of_eq (by omega : _ < 54) (show 54 = cfg0.N from N_0.symm)
  have h5 : (6 * (f.val / 768) + 5) % 6 = 5 := by omega
  have hd : (6 * (f.val / 768) + 5) / 6 = f.val / 768 := by omega
  have hdisj := Pipeline.Window.hdisj_of_index_inj (cfg0.win 7) (fun t t' ht ht' e => by
    have h1 := (flush0_7 t).mp ht
    have h2 := (flush0_7 t').mp ht'
    have h3 : win0_7.index t (1 : Fin 2) = win0_7.index t' (1 : Fin 2) := congrFun e (1 : Fin 2)
    rw [(ix7_0 t).2, (ix7_0 t').2] at h3
    exact Fin.ext (by omega))
  have key := (dats m 0 c).arrAt_emb_eq_flushed 7 hdisj ⟨6 * (f.val / 768) + 5, hN⟩ ((flush0_7 _).mpr h5)
    (ix2 r (⟨f.val % 768, Nat.mod_lt _ (by decide)⟩ : Fin 768))
  have he : ((cfg0.win 7).blk ⟨6 * (f.val / 768) + 5, hN⟩).view.emb (ix2 r (⟨f.val % 768, Nat.mod_lt _ (by decide)⟩ : Fin 768)) = ix2 r f := by
    funext a; apply Fin.ext
    match a with
    | ⟨0, _⟩ => show win0_7.index ⟨6 * (f.val / 768) + 5, hN⟩ (0 : Fin 2) * 2560 + 1 * r.val = r.val; rw [(ix7_0 _).1]; omega
    | ⟨1, _⟩ => show win0_7.index ⟨6 * (f.val / 768) + 5, hN⟩ (1 : Fin 2) * 768 + 1 * (f.val % 768) = f.val; rw [(ix7_0 _).2]; dsimp only; omega
  rw [he] at key
  refine key.trans ?_
  show (dats m 0 c).after 7 ⟨6 * (f.val / 768) + 5, hN⟩ (ix2 r (⟨f.val % 768, Nat.mod_lt _ (by decide)⟩ : Fin 768)) = _
  rw [after0_7]
  refine (out7_apply m c ⟨6 * (f.val / 768) + 5, hN⟩ h5 r ⟨f.val % 768, Nat.mod_lt _ (by decide)⟩ (by dsimp only; omega)).trans ?_
  refine congrArg (fun g => dwK m c (ix2 r g)) (Fin.ext ?_)
  dsimp only; omega

/-! ## The two sums -/

/-- The scaled gradient where the region code is `p`, zero elsewhere, its row and column reduced into range. -/
def H (c : Dev nD) (p : BitVec 32) (r f : ℕ) : EReal :=
  if fK m c ⟨r % 2560, Nat.mod_lt _ (by decide)⟩ ⟨f % 6912, Nat.mod_lt _ (by decide)⟩ = p
  then gK m c ⟨r % 2560, Nat.mod_lt _ (by decide)⟩ ⟨f % 6912, Nat.mod_lt _ (by decide)⟩ else 0

theorem cell_hits (c : Dev nD) (t : Fin cfg0.N) (h : t.val % 6 = 5) (p : BitVec 32) (r f : ℕ) (hq : f < 768) :
    cell (hits m c t p) r f = H m c p r (768 * (t.val / 6) + f) := by
  have ht := lt54 t.isLt
  have hf : 768 * (t.val / 6) + f % 768 < 6912 := by omega
  have e : (⟨768 * (t.val / 6) + f % 768, hf⟩ : Fin 6912) = ⟨(768 * (t.val / 6) + f) % 6912, Nat.mod_lt _ (by decide)⟩ := Fin.ext (by dsimp only; omega)
  unfold cell hits hit H
  rw [fld_point m c t _ ⟨f % 768, Nat.mod_lt _ (by decide)⟩ hf, accu_last m c t h _ ⟨f % 768, Nat.mod_lt _ (by decide)⟩ hf]
  simp only [e]

/-- What column block `j` adds to a sums element. -/
def gainN (c : Dev nD) (y : S2x8x128.Idx) (j : ℕ) : EReal :=
  ∑ k ∈ range 10, ∑ t ∈ range 6, ∑ q ∈ range 32, H m c (BitVec.ofNat 32 ((y 0).val + 1)) (256 * k + (8 * q + (y 1).val)) (768 * j + (128 * t + (y 2).val))

theorem gain_eq (c : Dev nD) (t : Fin cfg0.N) (h : t.val % 6 = 5) (y : S2x8x128.Idx) : gain m c t y = gainN m c y (t.val / 6) := by
  have h2 : (y 2).val < 128 := (y 2).isLt
  unfold gain gainN rowSum
  refine Finset.sum_congr rfl fun k _ => ?_
  rw [Finset.sum_range]
  refine Finset.sum_congr rfl fun u _ => ?_
  rw [Finset.sum_range]
  refine Finset.sum_congr rfl fun q _ => ?_
  exact cell_hits m c t h _ _ _ (by have := u.isLt; omega)

/-- The running sums after a point. -/
theorem sums_closed (c : Dev nD) (y : S2x8x128.Idx) : ∀ (n : ℕ) (hn : n < cfg0.N), sums m c n hn y = ∑ j ∈ range ((n + 1) / 6), gainN m c y j := by
  intro n
  induction n with
  | zero => intro hn; exact Ideal.ofBits_zero_f32
  | succ n ih =>
    intro hn
    by_cases h : (n + 1) % 6 = 5
    · have e : (n + 1 + 1) / 6 = (n + 1) / 6 + 1 := by omega
      refine (sums_last m c ⟨n + 1, hn⟩ h y).trans ?_
      rw [e, Finset.sum_range_succ]
      exact congrArg₂ (fun a b : EReal => a + b) (ih (Nat.lt_of_succ_lt hn)) (gain_eq m c ⟨n + 1, hn⟩ h y)
    · have e : (n + 1 + 1) / 6 = (n + 1) / 6 := by omega
      rw [e]
      exact (congrFun (sums_other m c ⟨n + 1, hn⟩ (Nat.succ_ne_zero n) h) y).trans (ih (Nat.lt_of_succ_lt hn))

/-- The sum of the scaled gradients over a region. -/
def total (c : Dev nD) (p : BitVec 32) : EReal := ∑ r : Fin 2560, ∑ f : Fin 6912, if fK m c r f = p then gK m c r f else 0

theorem total_eq (c : Dev nD) (p : BitVec 32) : ∑ r ∈ range 2560, ∑ f ∈ range 6912, H m c p r f = total m c p := by
  rw [Finset.sum_range]
  refine Finset.sum_congr rfl fun r _ => ?_
  rw [Finset.sum_range]
  refine Finset.sum_congr rfl fun f _ => ?_
  have e1 : (⟨r.val % 2560, Nat.mod_lt _ (by decide)⟩ : Fin 2560) = r := Fin.ext (Nat.mod_eq_of_lt r.isLt)
  have e2 : (⟨f.val % 6912, Nat.mod_lt _ (by decide)⟩ : Fin 6912) = f := Fin.ext (Nat.mod_eq_of_lt f.isLt)
  unfold H
  rw [e1, e2]

/-- The last point. -/
def tL : Fin cfg0.N := ⟨53, by rw [show cfg0.N = 54 from N_0]; decide⟩

theorem sums_total (c : Dev nD) (e : Fin 2) (p : BitVec 32) (hp : BitVec.ofNat 32 (e.val + 1) = p) :
    ∑ s : Fin 8, ∑ l : Fin 128, sums m c tL.val tL.isLt (ix3 e s l) = total m c p := by
  subst hp
  rw [← total_eq, ← sum_all (H m c (BitVec.ofNat 32 (e.val + 1))), Finset.sum_range]
  refine Finset.sum_congr rfl fun s _ => ?_
  rw [Finset.sum_range]
  refine Finset.sum_congr rfl fun l _ => ?_
  exact sums_closed m c (ix3 e s l) 53 tL.isLt

/-- The kernel's second result, and its third. -/
def dwpK (c : Dev nD) : S1x1.Idx → EReal := fun _ => total m c 1#32
def dwnK (c : Dev nD) : S1x1.Idx → EReal := fun _ => -total m c 2#32

theorem arr8 (c : Dev nD) : (dats m 0 c).arrAt 8 cfg0.N = dwpK m c := by
  refine (dats m 0 c).arrAt_eq_of_after_last 8 tL (by decide +kernel) _ fun j => ?_
  show (dats m 0 c).after 8 tL _ = _
  rw [after0_8]
  exact sums_total m c 0 1#32 (by decide)

theorem arr9 (c : Dev nD) : (dats m 0 c).arrAt 9 cfg0.N = dwnK m c := by
  refine (dats m 0 c).arrAt_eq_of_after_last 9 tL (by decide +kernel) _ fun j => ?_
  show (dats m 0 c).after 9 tL _ = _
  rw [after0_9]
  show (0 - ∑ s : Fin 8, ∑ l : Fin 128, sums m c tL.val tL.isLt (ix3 1 s l) : EReal) = -total m c 2#32
  rw [sums_total m c 1 2#32 (by decide), zero_sub]

/-- The kernel's run: its result arrays hold the three results, and its arguments are unchanged. -/
theorem run : θ_run defs (onTc (τ := τ) (main (F := Ideal))) ⟨m, fun _ => 0, ρ⟩ fun r => ∀ c : Dev nD,
      r.2.mem ((c.tc : Thread nD τ).loc main_v5_0) = dwK m c
      ∧ r.2.mem ((c.tc : Thread nD τ).loc main_v5_1) = dwpK m c
      ∧ r.2.mem ((c.tc : Thread nD τ).loc main_v5_2) = dwnK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 7).trans (arr7 m c), ((h.1 c).1 8).trans (arr8 m c), ((h.1 c).1 9).trans (arr9 m c), h.2 c⟩)
    (θ_run_and (run_main m ρ) (unchanged m ρ))

end Cert.DwIdeal.Val

end
-- ==== Proof.RefDwValue.lean ====
/- What the plain reference for `dw` leaves in its three results, element by element: the gradient of a weight, and the
   sums of the gradients over the positive and over the negative region. -/
module

public import proofs.«01_k».proof.Proof.Gen.RefDwIdeal.Frame
public import proofs.«01_k».proof.Proof.RefField
public import Idealize.ShloMosaic.Lib.TwoAxisContraction
public import Idealize.ShloMosaic.Lib.Pipeline.ValueKit.Geometry
public import Idealize.ShloMosaic.Lib.Pointwise.Reshape
public import Idealize.ShloMosaic.Lib.Pointwise.Index
public import Idealize.ShloMosaic.Lib.StableHlo.Run

@[expose] public section

set_option maxRecDepth 16384

noncomputable section

namespace Cert.RefDwIdeal.Val

open Idealize.ShloMosaic hiding ix0 ix1 ix2 ix3 ix4
open Idealize.ShloMosaic.TcCoe Idealize.ShloMosaic.ValueIdx Idealize.ShloMosaic.StableHlo
open Idealize.SL.Sem
open Cert.RefDwIdeal Cert.RefDwIdeal.Gen Cert.Region

variable (m : (ℓ : Loc nD τ sig) → Buf (Elt Ideal) ℓ) (ρ : Dev nD → PrngReg)

/-- The one-call cast's output array after its run is the codes, each read as a number. -/
theorem arr1 (c : Dev nD) : (dats m 0 c).arrAt 1 cfg0.N = (extf .bf16 (m ((c : Thread nD τ).loc main_arg1)) bitsLt_fp8e5m2_bf16 : FVec Ideal S24x512x6912 .bf16) := by
  refine (dats m 0 c).arrAt_eq_of_after_last 1 ⟨0, by decide⟩ ?_ _ (fun j => ?_)
  · decide +kernel
  · show (dats m 0 c).after 1 _ j = _
    rw [after0_1]
    unfold out0_1
    rw [View.canon_unit_zero (by funext a; fin_cases a <;> rfl), View.ld_unit_zero (by funext a; fin_cases a <;> rfl)]
    unfold k0_pay1 iblk
    show V m c main_arg1 _ = m _ _
    rw [V_main_arg1]
    congr 1
    funext a
    have he : (((cfg0.win 0).blk ⟨0, by decide⟩).view.emb j a : ℕ) = 0 * S24x512x6912.size a + 1 * (j a).val := rfl
    exact Fin.ext (he.trans (by rw [Nat.zero_mul, Nat.zero_add, Nat.one_mul]; rfl))

/-- The scaled gradients of the weights, four a byte of codes. -/
def gradOf (x : FVec Ideal S24x512x2560 .bf16) (v16 : FVec Ideal S24x512x6912 .bf16) (s : FVec Ideal S_ .f32) : FVec Ideal S2560x1728x4 .f32 :=
  shapeCast S2560x1728x4 (mulf (Host.dotGeneral dot_S24x512x2560_S24x512x6912_S2560x6912_01_01_2_2_n_n none x v16)
    (broadcastInDim S2560x6912 ![] bcast_S_S2560x6912 s)) shapeCasts_S2560x6912_S2560x1728x4

/-- The ternary gradients. -/
def dwOf (g : FVec Ideal S2560x1728x4 .f32) (p n : IVec S2560x1728x4 1) (wp wn : FVec Ideal S_ .f32) : FVec Ideal S2560x6912 .f32 :=
  shapeCast S2560x6912 (select p (mulf (broadcastInDim S2560x1728x4 ![] bcast_S_S2560x1728x4 wp) g)
    (select n (mulf (broadcastInDim S2560x1728x4 ![] bcast_S_S2560x1728x4 wn) g) g)) shapeCasts_S2560x1728x4_S2560x6912

/-- The sum of the gradients over a region. -/
def sumOf (g : FVec Ideal S2560x1728x4 .f32) (p : IVec S2560x1728x4 1) : FVec Ideal S_ .f32 :=
  Host.reduceAdd (select p g (broadcastInDim S2560x1728x4 ![] bcast_S_S2560x1728x4 (constant S_ .f32 0x00000000#32))) (constant S_ .f32 0x00000000#32)
    reducesTo_S2560x1728x4_S_d0_1_2 h_S_

/-- The host lines after the cast. -/
abbrev tail : List (HloOp τ sig (Elt Ideal)) := List.flatten [hostOps1, hostOps1_1, hostOps1_2, hostOps1_3, hostOps1_4, hostOps1_5, hostOps1_6, hostOps1_7]

theorem tail_dw (U : Valuation τ sig (Elt Ideal)) :
    StableHlo.after tail U (Proc.devRef .tc main_v27)
      = dwOf (gradOf (U (Proc.devRef .tc main_arg0)) (U (Proc.devRef .tc main_v16)) (U (Proc.devRef .tc main_arg2)))
          (U (Proc.devRef .tc main_v13)) (U (Proc.devRef .tc main_v15)) (U (Proc.devRef .tc main_arg4)) (U (Proc.devRef .tc main_arg5)) := by
  simp only [tail, hostOps1, hostOps1_1, hostOps1_2, hostOps1_3, hostOps1_4, hostOps1_5, hostOps1_6, hostOps1_7, List.flatten_cons, List.flatten_nil, List.append_nil, List.cons_append, List.nil_append]
  after_results
  rfl

theorem tail_dwp (U : Valuation τ sig (Elt Ideal)) :
    StableHlo.after tail U (Proc.devRef .tc main_v33)
      = shapeCast S1x1 (sumOf (gradOf (U (Proc.devRef .tc main_arg0)) (U (Proc.devRef .tc main_v16)) (U (Proc.devRef .tc main_arg2)))
          (U (Proc.devRef .tc main_v13))) shapeCasts_S_S1x1 := by
  simp only [tail, hostOps1, hostOps1_1, hostOps1_2, hostOps1_3, hostOps1_4, hostOps1_5, hostOps1_6, hostOps1_7, List.flatten_cons, List.flatten_nil, List.append_nil, List.cons_append, List.nil_append]
  after_results
  rfl

theorem tail_dwn (U : Valuation τ sig (Elt Ideal)) :
    StableHlo.after tail U (Proc.devRef .tc main_v34)
      = shapeCast S1x1 (Host.negf (sumOf (gradOf (U (Proc.devRef .tc main_arg0)) (U (Proc.devRef .tc main_v16)) (U (Proc.devRef .tc main_arg2)))
          (U (Proc.devRef .tc main_v15)))) shapeCasts_S_S1x1 := by
  simp only [tail, hostOps1, hostOps1_1, hostOps1_2, hostOps1_3, hostOps1_4, hostOps1_5, hostOps1_6, hostOps1_7, List.flatten_cons, List.flatten_nil, List.append_nil, List.cons_append, List.nil_append]
  after_results
  rfl

theorem V_v13 (c : Dev nD) : V m c main_v13 = cmpi .eq (fieldsOf (m ((c : Thread nD τ).loc main_arg3))) (broadcastInDim S2560x1728x4 ![] bcast_S_S2560x1728x4 (constantI S_ 32 1#32)) := by
  show StableHlo.after hostOps0 _ (Proc.devRef .tc main_v13) = _
  after_results
  rfl

theorem V_v15 (c : Dev nD) : V m c main_v15 = cmpi .eq (fieldsOf (m ((c : Thread nD τ).loc main_arg3))) (broadcastInDim S2560x1728x4 ![] bcast_S_S2560x1728x4 (constantI S_ 32 2#32)) := by
  show StableHlo.after hostOps0 _ (Proc.devRef .tc main_v15) = _
  after_results
  rfl

/-- The scaled gradients, as an expression of the arguments; -/
def grad (c : Dev nD) : FVec Ideal S2560x1728x4 .f32 :=
  gradOf (m ((c : Thread nD τ).loc main_arg0)) (extf .bf16 (m ((c : Thread nD τ).loc main_arg1)) bitsLt_fp8e5m2_bf16) (m ((c : Thread nD τ).loc main_arg2))
/-- where a region code is `p`; -/
def isReg (c : Dev nD) (p : BitVec 32) : IVec S2560x1728x4 1 :=
  cmpi .eq (fieldsOf (m ((c : Thread nD τ).loc main_arg3))) (broadcastInDim S2560x1728x4 ![] bcast_S_S2560x1728x4 (constantI S_ 32 p))
/-- and the three results. -/
def dwR (c : Dev nD) : FVec Ideal S2560x6912 .f32 :=
  dwOf (grad m c) (isReg m c 1#32) (isReg m c 2#32) (m ((c : Thread nD τ).loc main_arg4)) (m ((c : Thread nD τ).loc main_arg5))
def dwpR (c : Dev nD) : FVec Ideal S1x1 .f32 := shapeCast S1x1 (sumOf (grad m c) (isReg m c 1#32)) shapeCasts_S_S1x1
def dwnR (c : Dev nD) : FVec Ideal S1x1 .f32 := shapeCast S1x1 (Host.negf (sumOf (grad m c) (isReg m c 2#32))) shapeCasts_S_S1x1

/-- The buffers the tail reads, as the cast leaves them. -/
abbrev atTail (c : Dev nD) : Valuation τ sig (Elt Ideal) := Pipeline.withArrays spec0 c (V0 m c) fun w => (dats m 0 c).arrAt w cfg0.N

theorem at_v16 (c : Dev nD) : atTail m c (Proc.devRef .tc main_v16) = (extf .bf16 (m ((c : Thread nD τ).loc main_arg1)) bitsLt_fp8e5m2_bf16 : FVec Ideal S24x512x6912 .bf16) :=
  (Pipeline.withArrays_arr spec0 launch0.win.arr_inj c (V0 m c) _ 1).trans (arr1 m c)
theorem at_v13 (c : Dev nD) : atTail m c (Proc.devRef .tc main_v13) = isReg m c 1#32 :=
  (Pipeline.withArrays_of_ne _ c (V0 m c) _ main_v13 (by exact (by decide : ∀ w, Pipeline.arrRef spec0 w ≠ main_v13))).trans (V_v13 m c)
theorem at_v15 (c : Dev nD) : atTail m c (Proc.devRef .tc main_v15) = isReg m c 2#32 :=
  (Pipeline.withArrays_of_ne _ c (V0 m c) _ main_v15 (by exact (by decide : ∀ w, Pipeline.arrRef spec0 w ≠ main_v15))).trans (V_v15 m c)
theorem at_arg0 (c : Dev nD) : atTail m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem at_arg2 (c : Dev nD) : atTail m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem at_arg4 (c : Dev nD) : atTail m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem at_arg5 (c : Dev nD) : atTail m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem after_v27 (c : Dev nD) :
    Pipeline.afterTail₀ cfgs (dats m) 0 (V0 m) [hostOps1, hostOps1_1, hostOps1_2, hostOps1_3, hostOps1_4, hostOps1_5, hostOps1_6, hostOps1_7] c main_v27 = dwR m c := by
  refine (tail_dw (atTail m c)).trans ?_
  rw [at_v16, at_v13, at_v15, at_arg0, at_arg2, at_arg4, at_arg5]
  rfl

theorem after_v33 (c : Dev nD) :
    Pipeline.afterTail₀ cfgs (dats m) 0 (V0 m) [hostOps1, hostOps1_1, hostOps1_2, hostOps1_3, hostOps1_4, hostOps1_5, hostOps1_6, hostOps1_7] c main_v33 = dwpR m c := by
  refine (tail_dwp (atTail m c)).trans ?_
  rw [at_v16, at_v13, at_arg0, at_arg2]
  rfl

theorem after_v34 (c : Dev nD) :
    Pipeline.afterTail₀ cfgs (dats m) 0 (V0 m) [hostOps1, hostOps1_1, hostOps1_2, hostOps1_3, hostOps1_4, hostOps1_5, hostOps1_6, hostOps1_7] c main_v34 = dwnR m c := by
  refine (tail_dwn (atTail m c)).trans ?_
  rw [at_v16, at_v15, at_arg0, at_arg2]
  rfl

/-- The reference's run: its result buffers hold the three results, and its arguments are unchanged. -/
theorem run : θ_run defs (onTc (τ := τ) (main (F := Ideal))) ⟨m, fun _ => 0, ρ⟩ fun r => ∀ c : Dev nD,
      r.2.mem ((c : Thread nD τ).loc main_v27) = dwR m c
      ∧ r.2.mem ((c : Thread nD τ).loc main_v33) = dwpR m c
      ∧ r.2.mem ((c : Thread nD τ).loc main_v34) = dwnR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1.rest_eq c main_v27 (Pipeline.mem_restRefs_of main_v27 (by decide) (by decide))).trans (after_v27 m c),
    (h.1.rest_eq c main_v33 (Pipeline.mem_restRefs_of main_v33 (by decide) (by decide))).trans (after_v33 m c),
    (h.1.rest_eq c main_v34 (Pipeline.mem_restRefs_of main_v34 (by decide) (by decide))).trans (after_v34 m c), h.2 c⟩)
    (θ_run_and (run_main m ρ) (unchanged m ρ))

theorem select_cmpi (a b : BitVec 32) (u v : EReal) : Scalar.select (IntOp.cmpi .eq a b) u v = if a = b then u else v := by
  unfold Scalar.select IntOp.cmpi
  by_cases h : a = b
  · simp [h]
  · have h' : (a == b) = false := by simpa using h
    simp [h, h']

/-- A product contracted over batch and position, read as a sum over both. -/
theorem dot_apply (l : FVec Ideal S24x512x2560 .bf16) (r : FVec Ideal S24x512x6912 .bf16) (d : Fin 2560) (f : Fin 6912) :
    (Host.dotGeneral dot_S24x512x2560_S24x512x6912_S2560x6912_01_01_2_2_n_n none l r : FVec Ideal S2560x6912 .f32) (ix2 d f)
      = (∑ b : Fin 24, ∑ s : Fin 512, (l (ix3 b s d) * r (ix3 b s f) : EReal)) := by
  simp only [Host.dotGeneral]
  rw [Ideal.dotGeneral_apply, sum_contr2 dot_S24x512x2560_S24x512x6912_S2560x6912_01_01_2_2_n_n 24 512 rfl rfl rfl]
  refine Finset.sum_congr rfl fun j _ => Finset.sum_congr rfl fun k _ => ?_
  congr 2
  · funext a
    match a with
    | ⟨0, _⟩ => exact Fin.ext (contrEquiv2_symm_val0 dot_S24x512x2560_S24x512x6912_S2560x6912_01_01_2_2_n_n 24 512 rfl rfl rfl (j, k))
    | ⟨1, _⟩ => exact Fin.ext (contrEquiv2_symm_val1 dot_S24x512x2560_S24x512x6912_S2560x6912_01_01_2_2_n_n 24 512 rfl rfl rfl (j, k))
    | ⟨2, _⟩ => rfl
  · funext a
    match a with
    | ⟨0, _⟩ => exact Fin.ext (contrEquiv2_symm_val0 dot_S24x512x2560_S24x512x6912_S2560x6912_01_01_2_2_n_n 24 512 rfl rfl rfl (j, k))
    | ⟨1, _⟩ => exact Fin.ext (contrEquiv2_symm_val1 dot_S24x512x2560_S24x512x6912_S2560x6912_01_01_2_2_n_n 24 512 rfl rfl rfl (j, k))
    | ⟨2, _⟩ => rfl

/-- A sum over the 6912 columns is a sum over bytes and fields. -/
theorem sum_fields (g : Fin 6912 → EReal) :
    ∑ j : Fin 1728, ∑ k : Fin 4, g ⟨4 * j.val + k.val, by omega⟩ = ∑ f : Fin 6912, g f := by
  rw [← Fintype.sum_prod_type' (f := fun (j : Fin 1728) (k : Fin 4) => g ⟨4 * j.val + k.val, by omega⟩),
    ← (finProdFinEquiv (m := 1728) (n := 4)).sum_comp]
  refine Finset.sum_congr rfl fun p _ => ?_
  congr 1
  exact Fin.ext (Nat.add_comm _ _)

/-- The activations; -/
def xA (c : Dev nD) : S24x512x2560.Idx → EReal := m ((c : Thread nD τ).loc main_arg0)
/-- the gradient codes, read as numbers; -/
def dyA (c : Dev nD) : S24x512x6912.Idx → EReal := m ((c : Thread nD τ).loc main_arg1)
/-- the scale; -/
def scA (c : Dev nD) : EReal := m ((c : Thread nD τ).loc main_arg2) ix0
/-- the region codes; -/
def rcA (c : Dev nD) : S2560x1728.Idx → BitVec 8 := m ((c : Thread nD τ).loc main_arg3)
/-- the positive weight -/
def wpA (c : Dev nD) : EReal := m ((c : Thread nD τ).loc main_arg4) ix0
/-- and the negative one. -/
def wnA (c : Dev nD) : EReal := m ((c : Thread nD τ).loc main_arg5) ix0

/-- The scaled gradient of the weight at `(d, f)`, -/
def gA (c : Dev nD) (d : Fin 2560) (f : Fin 6912) : EReal := (∑ b : Fin 24, ∑ s : Fin 512, xA m c (ix3 b s d) * dyA m c (ix3 b s f)) * scA m c
/-- and the region the weight is in. -/
def fA (c : Dev nD) (d : Fin 2560) (f : Fin 6912) : BitVec 32 := fld (rcA m c (ix2 d ⟨f.val / 4, by omega⟩)) (f.val % 4)

theorem grad_apply (c : Dev nD) (d : Fin 2560) (j : Fin 1728) (k : Fin 4) :
    (grad m c (ix3 d j k) : EReal) = gA m c d ⟨4 * j.val + k.val, by omega⟩ := by
  unfold grad gradOf
  rw [shapeCast_apply _ _ (ix3 d j k) (ix2 d ⟨4 * j.val + k.val, by omega⟩ : S2560x6912.Idx) (by
    rw [rowMajor_val3 (σ0 := 1728 * 4) (σ1 := 4) _ rfl rfl, rowMajor_val2 (σ0 := 6912) _ rfl]
    show d.val * 6912 + (4 * j.val + k.val) = d.val * (1728 * 4) + j.val * 4 + k.val
    omega)]
  show ((Host.dotGeneral dot_S24x512x2560_S24x512x6912_S2560x6912_01_01_2_2_n_n none _ _ : FVec Ideal S2560x6912 .f32) (ix2 d _) : EReal)
    * (broadcastInDim (s := S_) S2560x6912 ![] _ _ (ix2 d _) : EReal) = _
  rw [broadcastInDim_scalar_apply, dot_apply]
  rfl

theorem isReg_apply (c : Dev nD) (p : BitVec 32) (d : Fin 2560) (j : Fin 1728) (k : Fin 4) :
    isReg m c p (ix3 d j k) = IntOp.cmpi .eq (fA m c d ⟨4 * j.val + k.val, by omega⟩) p := by
  unfold isReg
  show IntOp.cmpi .eq (fieldsOf _ (ix3 d j k)) (broadcastInDim (s := S_) S2560x1728x4 ![] _ _ (ix3 d j k)) = _
  rw [broadcastInDim_scalar_apply, fieldsOf_apply]
  have e1 : (⟨(4 * j.val + k.val) / 4, by omega⟩ : Fin 1728) = j := Fin.ext (by show (4 * j.val + k.val) / 4 = j.val; omega)
  have e2 : (4 * j.val + k.val) % 4 = k.val := by omega
  unfold fA
  simp only [e1, e2]
  rfl

/-- The gradient of the weight at `(d, f)`. -/
theorem dwR_apply (c : Dev nD) (d : Fin 2560) (f : Fin 6912) :
    (dwR m c (ix2 d f) : EReal) = if fA m c d f = 1#32 then wpA m c * gA m c d f else if fA m c d f = 2#32 then wnA m c * gA m c d f else gA m c d f := by
  have hf : (⟨4 * (f.val / 4) + f.val % 4, by omega⟩ : Fin 6912) = f := Fin.ext (by show 4 * (f.val / 4) + f.val % 4 = f.val; omega)
  unfold dwR dwOf
  rw [shapeCast_apply _ _ (ix2 d f) (ix3 d ⟨f.val / 4, by omega⟩ ⟨f.val % 4, Nat.mod_lt _ (by decide)⟩ : S2560x1728x4.Idx) (by
    rw [rowMajor_val3 (σ0 := 1728 * 4) (σ1 := 4) _ rfl rfl, rowMajor_val2 (σ0 := 6912) _ rfl]
    show d.val * (1728 * 4) + f.val / 4 * 4 + f.val % 4 = d.val * 6912 + f.val
    omega)]
  show Scalar.select (isReg m c 1#32 (ix3 d _ _)) ((broadcastInDim (s := S_) S2560x1728x4 ![] _ _ (ix3 d _ _) : EReal) * grad m c (ix3 d _ _))
    (Scalar.select (isReg m c 2#32 (ix3 d _ _)) ((broadcastInDim (s := S_) S2560x1728x4 ![] _ _ (ix3 d _ _) : EReal) * grad m c (ix3 d _ _)) (grad m c (ix3 d _ _) : EReal)) = _
  rw [isReg_apply, isReg_apply, grad_apply, broadcastInDim_scalar_apply, broadcastInDim_scalar_apply, select_cmpi, select_cmpi]
  simp only [hf]
  rfl

/-- The sum of the gradients over a region. -/
theorem sumOf_apply (c : Dev nD) (p : BitVec 32) (i : S_.Idx) :
    (sumOf (grad m c) (isReg m c p) i : EReal) = ∑ d : Fin 2560, ∑ f : Fin 6912, if fA m c d f = p then gA m c d f else 0 := by
  unfold sumOf
  rw [hostReduceAdd_apply, Ideal.hostReduceAdd_total _ (fun b => b.elim0)]
  have hz : (constant S_ .f32 0x00000000#32 : FVec Ideal S_ .f32) (Shape.Idx.first h_S_) = (0 : EReal) := Ideal.ofBits_zero_f32
  rw [hz, zero_add, sum_idx3]
  refine Finset.sum_congr rfl fun d _ => ?_
  rw [← sum_fields (fun f => if fA m c d f = p then gA m c d f else 0)]
  refine Finset.sum_congr rfl fun j _ => Finset.sum_congr rfl fun k _ => ?_
  show Scalar.select (isReg m c p (ix3 d j k)) (grad m c (ix3 d j k) : EReal) (broadcastInDim (s := S_) S2560x1728x4 ![] _ _ (ix3 d j k) : EReal) = _
  rw [isReg_apply, grad_apply, broadcastInDim_scalar_apply, select_cmpi]
  have hz' : (constant S_ .f32 0x00000000#32 : FVec Ideal S_ .f32) ix0 = (0 : EReal) := Ideal.ofBits_zero_f32
  rw [hz']

theorem dwpR_apply (c : Dev nD) (i : S1x1.Idx) :
    (dwpR m c i : EReal) = ∑ d : Fin 2560, ∑ f : Fin 6912, if fA m c d f = 1#32 then gA m c d f else 0 := by
  unfold dwpR shapeCast
  exact sumOf_apply m c 1#32 _

theorem dwnR_apply (c : Dev nD) (i : S1x1.Idx) :
    (dwnR m c i : EReal) = -∑ d : Fin 2560, ∑ f : Fin 6912, if fA m c d f = 2#32 then gA m c d f else 0 := by
  unfold dwnR shapeCast
  exact congrArg (fun z : EReal => -z) (sumOf_apply m c 2#32 _)

end Cert.RefDwIdeal.Val

end
-- ==== Proof.DwAlg.lean ====
/- The value claim for `dw`: the ideal kernel's three results are the ideal reference's, element by element. -/
module

public import proofs.«01_k».proof.Defs
public import proofs.«01_k».proof.Proof.DwValue
public import proofs.«01_k».proof.Proof.RefDwValue

@[expose] public section

set_option maxRecDepth 16384

noncomputable section

namespace Cert.DwAlg

open Idealize.ShloMosaic hiding ix0 ix1 ix2 ix3 ix4
open Idealize.ShloMosaic.TcCoe Idealize.ShloMosaic.ValueIdx
open Idealize.SL.Sem Cert.Region

/-- The same arguments on both sides. -/
abbrev Same (m : (ℓ : Loc DwIdeal.nD DwIdeal.τ DwIdeal.sig) → Buf (Elt Ideal) ℓ) (m' : (ℓ : Loc RefDwIdeal.nD RefDwIdeal.τ RefDwIdeal.sig) → Buf (Elt Ideal) ℓ)
    (c : Dev DwIdeal.nD) : Prop :=
  m' ((c.tc : Thread RefDwIdeal.nD RefDwIdeal.τ).loc RefDwIdeal.main_arg0) = m ((c.tc : Thread DwIdeal.nD DwIdeal.τ).loc DwIdeal.main_arg0)
  ∧ m' ((c.tc : Thread RefDwIdeal.nD RefDwIdeal.τ).loc RefDwIdeal.main_arg1) = m ((c.tc : Thread DwIdeal.nD DwIdeal.τ).loc DwIdeal.main_arg1)
  ∧ m' ((c.tc : Thread RefDwIdeal.nD RefDwIdeal.τ).loc RefDwIdeal.main_arg2) = m ((c.tc : Thread DwIdeal.nD DwIdeal.τ).loc DwIdeal.main_arg2)
  ∧ m' ((c.tc : Thread RefDwIdeal.nD RefDwIdeal.τ).loc RefDwIdeal.main_arg3) = m ((c.tc : Thread DwIdeal.nD DwIdeal.τ).loc DwIdeal.main_arg3)
  ∧ m' ((c.tc : Thread RefDwIdeal.nD RefDwIdeal.τ).loc RefDwIdeal.main_arg4) = m ((c.tc : Thread DwIdeal.nD DwIdeal.τ).loc DwIdeal.main_arg4)
  ∧ m' ((c.tc : Thread RefDwIdeal.nD RefDwIdeal.τ).loc RefDwIdeal.main_arg5) = m ((c.tc : Thread DwIdeal.nD DwIdeal.τ).loc DwIdeal.main_arg5)

variable (m : (ℓ : Loc DwIdeal.nD DwIdeal.τ DwIdeal.sig) → Buf (Elt Ideal) ℓ) (m' : (ℓ : Loc RefDwIdeal.nD RefDwIdeal.τ RefDwIdeal.sig) → Buf (Elt Ideal) ℓ)
variable (c : Dev DwIdeal.nD)

theorem fields (h : Same m m' c) (d : Fin 2560) (f : Fin 6912) : RefDwIdeal.Val.fA m' c d f = DwIdeal.Val.fK m c d f := by
  unfold RefDwIdeal.Val.fA RefDwIdeal.Val.rcA
  rw [h.2.2.2.1]
  rfl

/-- The reference's sum over batch and position is the kernel's over the flattened rows. -/
theorem grads (h : Same m m' c) (d : Fin 2560) (f : Fin 6912) : RefDwIdeal.Val.gA m' c d f = DwIdeal.Val.gK m c d f := by
  unfold RefDwIdeal.Val.gA DwIdeal.Val.gK RefDwIdeal.Val.xA RefDwIdeal.Val.dyA RefDwIdeal.Val.scA
  rw [h.1, h.2.1, h.2.2.1]
  refine congrArg (fun z : EReal => z * DwIdeal.Val.scv m c) ?_
  refine Eq.trans ?_ (DwIdeal.Val.sum_grid (DwIdeal.Val.P m c d f) 24 512).symm
  rw [Finset.sum_range]
  refine Finset.sum_congr rfl fun b _ => ?_
  rw [Finset.sum_range]
  refine Finset.sum_congr rfl fun s _ => ?_
  have hb := b.isLt
  have hs := s.isLt
  unfold DwIdeal.Val.P DwIdeal.Val.xv DwIdeal.Val.dyv
  rw [DwIdeal.Val.V_x, DwIdeal.Val.V_dy]
  refine congrArg₂ (fun u v : EReal => u * v) ?_ ?_
  · refine (shapeCast_apply _ _ (ix2 (⟨(b.val * 512 + s.val) % 12288, Nat.mod_lt _ (by decide)⟩ : Fin 12288) d) (ix3 b s d) ?_).symm
    rw [rowMajor_val3 (σ0 := 512 * 2560) (σ1 := 2560) _ rfl rfl, rowMajor_val2 (σ0 := 2560) _ rfl]
    show b.val * (512 * 2560) + s.val * 2560 + d.val = (b.val * 512 + s.val) % 12288 * 2560 + d.val
    omega
  · refine (shapeCast_apply _ _ (ix2 (⟨(b.val * 512 + s.val) % 12288, Nat.mod_lt _ (by decide)⟩ : Fin 12288) f) (ix3 b s f) ?_).symm
    rw [rowMajor_val3 (σ0 := 512 * 6912) (σ1 := 6912) _ rfl rfl, rowMajor_val2 (σ0 := 6912) _ rfl]
    show b.val * (512 * 6912) + s.val * 6912 + f.val = (b.val * 512 + s.val) % 12288 * 6912 + f.val
    omega

theorem total_eq (h : Same m m' c) (p : BitVec 32) :
    (∑ d : Fin 2560, ∑ f : Fin 6912, if RefDwIdeal.Val.fA m' c d f = p then RefDwIdeal.Val.gA m' c d f else 0) = DwIdeal.Val.total m c p := by
  refine Finset.sum_congr rfl fun d _ => Finset.sum_congr rfl fun f _ => ?_
  rw [fields m m' c h, grads m m' c h]

theorem values_dw (h : Same m m' c) : (RefDwIdeal.Val.dwR m' c : DwIdeal.S2560x6912.Idx → EReal) = DwIdeal.Val.dwK m c := by
  funext y
  obtain ⟨d, f, rfl⟩ : ∃ (d : Fin 2560) (f : Fin 6912), y = ix2 d f := ⟨y 0, y 1, by funext a; fin_cases a <;> rfl⟩
  refine (RefDwIdeal.Val.dwR_apply m' c d f).trans ?_
  rw [fields m m' c h, grads m m' c h]
  unfold RefDwIdeal.Val.wpA RefDwIdeal.Val.wnA
  rw [h.2.2.2.2.1, h.2.2.2.2.2]
  rfl

theorem values_dwp (h : Same m m' c) : (RefDwIdeal.Val.dwpR m' c : DwIdeal.S1x1.Idx → EReal) = DwIdeal.Val.dwpK m c :=
  funext fun y => (RefDwIdeal.Val.dwpR_apply m' c y).trans (total_eq m m' c h 1#32)

theorem values_dwn (h : Same m m' c) : (RefDwIdeal.Val.dwnR m' c : DwIdeal.S1x1.Idx → EReal) = DwIdeal.Val.dwnK m c :=
  funext fun y => (RefDwIdeal.Val.dwnR_apply m' c y).trans (congrArg (fun z : EReal => -z) (total_eq m m' c h 2#32))

/-- `dw`, kernel against reference. -/
theorem algebraic : Cert.algebraic_DwIdeal_RefDwIdeal := by
  intro m g m' g' _ h
  refine ⟨fun c => DwIdeal.Val.dwK m c, fun c => DwIdeal.Val.dwpK m c, fun c => DwIdeal.Val.dwnK m c, DwIdeal.Val.run m g, ?_⟩
  exact (θ_run RefDwIdeal.defs _ _).mono (fun r hr c => ⟨(hr c).1.trans (values_dw m m' c (h c)), (hr c).2.1.trans (values_dwp m m' c (h c)),
    (hr c).2.2.1.trans (values_dwn m m' c (h c)), (hr c).2.2.2⟩) (RefDwIdeal.Val.run m' g')

end Cert.DwAlg

end
-- ==== Proof.lean ====
module

public import proofs.«01_k».proof.Defs
public import proofs.«01_k».proof.Proof.Gen.Dx.Frame
public import proofs.«01_k».proof.Proof.Gen.DxIdeal.Frame
public import proofs.«01_k».proof.Proof.Gen.RefDxIdeal.Frame
public import proofs.«01_k».proof.Proof.Gen.DxIdeal.Value
public import proofs.«01_k».proof.Proof.Gen.RefDwIdeal.Frame
public import proofs.«01_k».proof.Proof.DxAlg
public import proofs.«01_k».proof.Proof.DwFrame
public import proofs.«01_k».proof.Proof.DwAlg

@[expose] public section

noncomputable section

namespace Cert.Proof

open Idealize.ShloMosaic Idealize.SL.Sem

/-- Every claim. -/
theorem claim : Cert.Claim := ⟨Cert.Dx.Gen.facts, Cert.DxIdeal.Gen.facts, Cert.RefDxIdeal.Gen.facts,
  Cert.Dw.Gen.facts, Cert.DwIdeal.Gen.facts, Cert.RefDwIdeal.Gen.facts,
  fun m ρ _ => Cert.Dx.Gen.frame m ρ,
  fun m ρ _ => Cert.DxIdeal.Gen.frame m ρ,
  fun m ρ _ => Cert.RefDxIdeal.Gen.frame m ρ,
  fun m ρ _ => Cert.Dw.Gen.frame m ρ,
  fun m ρ _ => Cert.DwIdeal.Val.frame m ρ,
  fun m ρ _ => Cert.RefDwIdeal.Gen.frame m ρ,
  trivial,
  Cert.DxAlg.algebraic,
  trivial,
  Cert.DwAlg.algebraic⟩

end Cert.Proof

end
